-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_nonnegative [hPre_scales_nonnegative : Cert.Pre_scales_nonnegative.Facts] (m : (ℓ : Loc Cert.KernelIdeal.nD Cert.KernelIdeal.τ Cert.KernelIdeal.sig) → Buf (Elt Ideal) ℓ) : Prop :=
  ∀ c : Dev Cert.KernelIdeal.nD,
    (Cert.Pre_scales_nonnegative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_nonnegative [hPre_scales_nonnegative : Cert.Pre_scales_nonnegative.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_nonnegative.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_scales_nonnegative [hKernelIdeal : Cert.KernelIdeal.Facts] [hPre_scales_nonnegative : Cert.Pre_scales_nonnegative.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_nonnegative m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_scales_nonnegative [hReferenceIdeal : Cert.ReferenceIdeal.Facts] [hPre_scales_nonnegative : Cert.Pre_scales_nonnegative.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_nonnegative m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_scales_nonnegative [hKernelIdeal : Cert.KernelIdeal.Facts] [hReferenceIdeal : Cert.ReferenceIdeal.Facts] [hPre_scales_nonnegative : Cert.Pre_scales_nonnegative.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_nonnegative m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_scales_nonnegative : Cert.Pre_scales_nonnegative.Facts),
    quiescent_Kernel (hKernel := hKernel)
    ∧ quiescent_KernelIdeal (hKernelIdeal := hKernelIdeal)
    ∧ quiescent_KernelIdeal_pre_scales_nonnegative (hKernelIdeal := hKernelIdeal) (hPre_scales_nonnegative := hPre_scales_nonnegative)
    ∧ quiescent_ReferenceIdeal (hReferenceIdeal := hReferenceIdeal)
    ∧ quiescent_ReferenceIdeal_pre_scales_nonnegative (hReferenceIdeal := hReferenceIdeal) (hPre_scales_nonnegative := hPre_scales_nonnegative)
    ∧ preserves_Kernel_KernelIdeal
    ∧ algebraic_KernelIdeal_ReferenceIdeal_pre_scales_nonnegative (hKernelIdeal := hKernelIdeal) (hReferenceIdeal := hReferenceIdeal) (hPre_scales_nonnegative := hPre_scales_nonnegative)
-- ==== Pre_scales_nonnegative.lean ====
abbrev S8x8192x1024 : Shape := ⟨3, ![8, 8192, 1024]⟩
abbrev S8 : Shape := ⟨1, ![8]⟩
abbrev S8x8192x128 : Shape := ⟨3, ![8, 8192, 128]⟩
abbrev S1 : Shape := ⟨1, ![1]⟩
abbrev S_ : Shape := ⟨0, ![]⟩

class Facts : Prop where
  shapeCasts_S1_S_ : S1.ShapeCasts S_
  bcast_S_S8 : S_.BroadcastsInDim S8 (![] : Fin 0 → Fin S8.rank)
  reducesTo_S8_S_d0 : S8.ReducesTo [0] S_
  h_S_ : 0 < S_.numel

variable [Facts]

def fn {F : FTy → Type} [FloatOps F] (main_arg0 : FVec F S8x8192x1024 .fp8e4m3) (main_arg1 : FVec F S8 .f32) (main_arg2 : FVec F S8x8192x128 .fp8e4m3) (main_arg3 : FVec F S1 .f32) (main_arg4 : FVec F S8x8192x128 .fp8e4m3) (main_arg5 : FVec F S1 .f32) : IVec S_ 1 :=
  let main_v0 : FVec F S_ .f32 := shapeCast S_ main_arg3 shapeCasts_S1_S_
  let main_v1 : FVec F S8 .f32 := broadcastInDim S8 ![] bcast_S_S8 main_v0
  let main_v2 : FVec F S8 .f32 := mulf main_arg1 main_v1
  let main_cst : FVec F S_ .f32 := constant S_ .f32 0x3DB504F3#32
  let main_v3 : FVec F S8 .f32 := broadcastInDim S8 ![] bcast_S_S8 main_cst
  let main_v4 : FVec F S8 .f32 := mulf main_v2 main_v3
  let main_cst_0 : FVec F S_ .f32 := constant S_ .f32 0x00000000#32
  let main_v5 : FVec F S8 .f32 := broadcastInDim S8 ![] bcast_S_S8 main_cst_0
  let main_v6 : IVec S8 1 := cmpf .oge main_v4 main_v5
  let main_c : IVec S_ 1 := constantI S_ 1 1#1
  let main_v7 : IVec S_ 1 := (fun x v => Host.reduce IntOp.andi x v reducesTo_S8_S_d0 h_S_) main_v6 main_c
  main_v7
-- ==== Kernel.lean ====
abbrev S8x8192x1024 : Shape := ⟨3, ![8, 8192, 1024]⟩
abbrev S8 : Shape := ⟨1, ![8]⟩
abbrev S8x8192x128 : Shape := ⟨3, ![8, 8192, 128]⟩
abbrev S1 : Shape := ⟨1, ![1]⟩
abbrev S_ : Shape := ⟨0, ![]⟩
abbrev S8x128 : Shape := ⟨2, ![8, 128]⟩
abbrev S1024 : Shape := ⟨1, ![1024]⟩
abbrev S1x1024 : Shape := ⟨2, ![1, 1024]⟩
abbrev S8x128x8192 : Shape := ⟨3, ![8, 128, 8192]⟩
abbrev S1x128x1024 : Shape := ⟨3, ![1, 128, 1024]⟩
abbrev S1x8192x128 : Shape := ⟨3, ![1, 8192, 128]⟩
abbrev S1x128x8192 : Shape := ⟨3, ![1, 128, 8192]⟩
abbrev S8x1024 : Shape := ⟨2, ![8, 1024]⟩
abbrev S128x1024 : Shape := ⟨2, ![128, 1024]⟩
abbrev S128x128 : Shape := ⟨2, ![128, 128]⟩
abbrev S1024x128 : Shape := ⟨2, ![1024, 128]⟩
abbrev S1x128x128 : Shape := ⟨3, ![1, 128, 128]⟩
abbrev S16x8x1024 : Shape := ⟨3, ![16, 8, 1024]⟩

abbrev nBuf : Space → Nat
  | .hbm => 29
  | .vmem => 13
  | .smem => 1
  | _ => 0

abbrev bufTy : (tb : Table) → Fin (tcTables nBuf tb) → BufTy
  | .hbm, ⟨0, _⟩ => ⟨S8x8192x1024, .fp8e4m3⟩
  | .hbm, ⟨1, _⟩ => ⟨S8, .f32⟩
  | .hbm, ⟨2, _⟩ => ⟨S8x8192x128, .fp8e4m3⟩
  | .hbm, ⟨3, _⟩ => ⟨S1, .f32⟩
  | .hbm, ⟨4, _⟩ => ⟨S8x8192x128, .fp8e4m3⟩
  | .hbm, ⟨5, _⟩ => ⟨S1, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S8, .f32⟩
  | .hbm, ⟨13, _⟩ => ⟨S8x128, .f32⟩
  | .hbm, ⟨14, _⟩ => ⟨S1024, .f32⟩
  | .hbm, ⟨15, _⟩ => ⟨S1x1024, .f32⟩
  | .hbm, ⟨16, _⟩ => ⟨S_, .f32⟩
  | .hbm, ⟨17, _⟩ => ⟨S8, .f32⟩
  | .hbm, ⟨18, _⟩ => ⟨S8, .i1⟩
  | .hbm, ⟨19, _⟩ => ⟨S_, .i32⟩
  | .hbm, ⟨20, _⟩ => ⟨S_, .i32⟩
  | .hbm, ⟨21, _⟩ => ⟨S8, .i32⟩
  | .hbm, ⟨22, _⟩ => ⟨S8, .i32⟩
  | .hbm, ⟨23, _⟩ => ⟨S8, .i32⟩
  | .hbm, ⟨24, _⟩ => ⟨S8x128, .i32⟩
  | .hbm, ⟨25, _⟩ => ⟨S1024, .i32⟩
  | .hbm, ⟨26, _⟩ => ⟨S1x1024, .i32⟩
  | .hbm, ⟨27, _⟩ => ⟨S8x128x8192, .fp8e4m3⟩
  | .hbm, ⟨28, _⟩ => ⟨S8x8192x1024, .bf16⟩
  | .local _ .vmem, ⟨0, _⟩ => ⟨S1x128x1024, .fp8e4m3⟩
  | .local _ .vmem, ⟨1, _⟩ => ⟨S1x128x1024, .fp8e4m3⟩
  | .local _ .vmem, ⟨2, _⟩ => ⟨S1x1024, .i32⟩
  | .local _ .vmem, ⟨3, _⟩ => ⟨S1x1024, .f32⟩
  | .local _ .vmem, ⟨4, _⟩ => ⟨S1x8192x128, .fp8e4m3⟩
  | .local _ .vmem, ⟨5, _⟩ => ⟨S1x8192x128, .fp8e4m3⟩
  | .local _ .vmem, ⟨6, _⟩ => ⟨S1x128x8192, .fp8e4m3⟩
  | .local _ .vmem, ⟨7, _⟩ => ⟨S1x128x8192, .fp8e4m3⟩
  | .local _ .vmem, ⟨8, _⟩ => ⟨S1x128x1024, .bf16⟩
  | .local _ .vmem, ⟨9, _⟩ => ⟨S1x128x1024, .bf16⟩
  | .local _ .vmem, ⟨10, _⟩ => ⟨S8x1024, .f32⟩
  | .local _ .vmem, ⟨11, _⟩ => ⟨S8x1024, .f32⟩
  | .local _ .vmem, ⟨12, _⟩ => ⟨S128x1024, .f32⟩
  | .local _ .smem, ⟨0, _⟩ => ⟨S1, .f32⟩
  | _, _ => ⟨S8x8192x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_c_1 : Ref sig .tc := ⟨.hbm, 20, rfl⟩
abbrev main_call0_v0 : Ref sig .tc := ⟨.hbm, 21, rfl⟩
abbrev main_call0_v1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 64], ![false, false]⟩

@[reducible] def k0_t1_loop (i : grid0.Coords) : Scf.Loop 32 :=
  let c0_i32_19 : BitVec 32 := 0#32
  let arg1 : BitVec 32 := BitVec.ofNat 32 (i 1).val
  let c1_i32 : BitVec 32 := 1#32
  let v0 : BitVec 32 := Scalar.addi arg1 c1_i32
  let c33_i32 : BitVec 32 := 33#32
  let v1 : BitVec 32 := Scalar.minsi v0 c33_i32
  let v52 : BitVec 32 := Scalar.subi v1 c0_i32_19
  let c1_i32_21 : BitVec 32 := 1#32
  let v54 : BitVec 32 := Scalar.divsi v52 c1_i32_21
  let v55 : BitVec 32 := Scalar.muli v54 c1_i32_21
  let v56 : BitVec 32 := Scalar.addi c0_i32_19 v55
  let c1_i32_22 : BitVec 32 := 1#32
  ⟨c0_i32_19, v56, c1_i32_22⟩
def k0_off1 (i : grid0.Coords) (k0_t1 : Fin (k0_t1_loop i).trips) : Fin 3 → Nat :=
  let c0_63 : Index := 0#32
  let arg1 : BitVec 32 := BitVec.ofNat 32 (i 1).val
  let c1_i32_0 : BitVec 32 := 1#32
  let v2 : BitVec 32 := Scalar.addi arg1 c1_i32_0
  let c1_i32 : BitVec 32 := 1#32
  let v0 : BitVec 32 := Scalar.addi arg1 c1_i32
  let c33_i32 : BitVec 32 := 33#32
  let v1 : BitVec 32 := Scalar.minsi v0 c33_i32
  let v3 : BitVec 32 := Scalar.subi v2 v1
  let c0_i32_19 : BitVec 32 := 0#32
  let c1_i32_22 : BitVec 32 := 1#32
  let arg12 : BitVec 32 := Scf.iv c0_i32_19 c1_i32_22 k0_t1
  let v137 : BitVec 32 := Scalar.addi v3 arg12
  let c128_i32_62 : BitVec 32 := 128#32
  let v138 : BitVec 32 := Scalar.muli v137 c128_i32_62
  let v139 : Index := Scalar.indexCast v138
  let c0_64 : Index := 0#32
  ![0, v139.toNat, 0]
@[reducible] def k0_t2_loop (i : grid0.Coords) : Scf.Loop 32 :=
  let c0_i32_19 : BitVec 32 := 0#32
  let arg1 : BitVec 32 := BitVec.ofNat 32 (i 1).val
  let c1_i32 : BitVec 32 := 1#32
  let v0 : BitVec 32 := Scalar.addi arg1 c1_i32
  let c33_i32 : BitVec 32 := 33#32
  let v1 : BitVec 32 := Scalar.minsi v0 c33_i32
  let v52 : BitVec 32 := Scalar.subi v1 c0_i32_19
  let c1_i32_21 : BitVec 32 := 1#32
  let v54 : BitVec 32 := Scalar.divsi v52 c1_i32_21
  let v55 : BitVec 32 := Scalar.muli v54 c1_i32_21
  let v56 : BitVec 32 := Scalar.addi c0_i32_19 v55
  let v53 : BitVec 32 := Scalar.addi c0_i32_19 v52
  let c1_i32_23 : BitVec 32 := 1#32
  ⟨v56, v53, c1_i32_23⟩
def k0_off2 (i : grid0.Coords) (k0_t2 : Fin (k0_t2_loop i).trips) : Fin 3 → Nat :=
  let c0_63 : Index := 0#32
  let arg1 : BitVec 32 := BitVec.ofNat 32 (i 1).val
  let c1_i32_0 : BitVec 32 := 1#32
  let v2 : BitVec 32 := Scalar.addi arg1 c1_i32_0
  let c1_i32 : BitVec 32 := 1#32
  let v0 : BitVec 32 := Scalar.addi arg1 c1_i32
  let c33_i32 : BitVec 32 := 33#32
  let v1 : BitVec 32 := Scalar.minsi v0 c33_i32
  let v3 : BitVec 32 := Scalar.subi v2 v1
  let c0_i32_19 : BitVec 32 := 0#32
  let v52 : BitVec 32 := Scalar.subi v1 c0_i32_19
  let c1_i32_21 : BitVec 32 := 1#32
  let v54 : BitVec 32 := Scalar.divsi v52 c1_i32_21
  let v55 : BitVec 32 := Scalar.muli v54 c1_i32_21
  let v56 : BitVec 32 := Scalar.addi c0_i32_19 v55
  let c1_i32_23 : BitVec 32 := 1#32
  let arg12 : BitVec 32 := Scf.iv v56 c1_i32_23 k0_t2
  let v137 : BitVec 32 := Scalar.addi v3 arg12
  let c128_i32_62 : BitVec 32 := 128#32
  let v138 : BitVec 32 := Scalar.muli v137 c128_i32_62
  let v139 : Index := Scalar.indexCast v138
  let c0_64 : Index := 0#32
  ![0, v139.toNat, 0]
@[reducible] def k0_t3_loop (i : grid0.Coords) : Scf.Loop 32 :=
  let c0_i32_34 : BitVec 32 := 0#32
  let arg1 : BitVec 32 := BitVec.ofNat 32 (i 1).val
  let c1_i32 : BitVec 32 := 1#32
  let v0 : BitVec 32 := Scalar.addi arg1 c1_i32
  let c33_i32 : BitVec 32 := 33#32
  let v1 : BitVec 32 := Scalar.minsi v0 c33_i32
  let v73 : BitVec 32 := Scalar.subi v1 c0_i32_34
  let c1_i32_36 : BitVec 32 := 1#32
  let v75 : BitVec 32 := Scalar.divsi v73 c1_i32_36
  let v76 : BitVec 32 := Scalar.muli v75 c1_i32_36
  let v77 : BitVec 32 := Scalar.addi c0_i32_34 v76
  let c1_i32_37 : BitVec 32 := 1#32
  ⟨c0_i32_34, v77, c1_i32_37⟩
def k0_off3 (i : grid0.Coords) (k0_t3 : Fin (k0_t3_loop i).trips) : Fin 3 → Nat :=
  let c0_63 : Index := 0#32
  let arg1 : BitVec 32 := BitVec.ofNat 32 (i 1).val
  let c1_i32_0 : BitVec 32 := 1#32
  let v2 : BitVec 32 := Scalar.addi arg1 c1_i32_0
  let c1_i32 : BitVec 32 := 1#32
  let v0 : BitVec 32 := Scalar.addi arg1 c1_i32
  let c33_i32 : BitVec 32 := 33#32
  let v1 : BitVec 32 := Scalar.minsi v0 c33_i32
  let v3 : BitVec 32 := Scalar.subi v2 v1
  let c0_i32_34 : BitVec 32 := 0#32
  let c1_i32_37 : BitVec 32 := 1#32
  let arg12 : BitVec 32 := Scf.iv c0_i32_34 c1_i32_37 k0_t3
  let v137 : BitVec 32 := Scalar.addi v3 arg12
  let c128_i32_62 : BitVec 32 := 128#32
  let v138 : BitVec 32 := Scalar.muli v137 c128_i32_62
  let v139 : Index := Scalar.indexCast v138
  let c0_64 : Index := 0#32
  ![0, v139.toNat, 0]
def k0_off4 (i : grid0.Coords) (k0_t3 : Fin (k0_t3_loop i).trips) : Fin 3 → Nat :=
  let c0_77 : Index := 0#32
  let c0_78 : Index := 0#32
  let arg1 : BitVec 32 := BitVec.ofNat 32 (i 1).val
  let c1_i32_0 : BitVec 32 := 1#32
  let v2 : BitVec 32 := Scalar.addi arg1 c1_i32_0
  let c1_i32 : BitVec 32 := 1#32
  let v0 : BitVec 32 := Scalar.addi arg1 c1_i32
  let c33_i32 : BitVec 32 := 33#32
  let v1 : BitVec 32 := Scalar.minsi v0 c33_i32
  let v3 : BitVec 32 := Scalar.subi v2 v1
  let c0_i32_34 : BitVec 32 := 0#32
  let c1_i32_37 : BitVec 32 := 1#32
  let arg12 : BitVec 32 := Scf.iv c0_i32_34 c1_i32_37 k0_t3
  let v173 : BitVec 32 := Scalar.addi v3 arg12
  let c128_i32_76 : BitVec 32 := 128#32
  let v174 : BitVec 32 := Scalar.muli v173 c128_i32_76
  let v175 : Index := Scalar.indexCast v174
  ![0, 0, v175.toNat]
@[reducible] def k0_t4_loop (i : grid0.Coords) : Scf.Loop 32 :=
  let c0_i32_34 : BitVec 32 := 0#32
  let arg1 : BitVec 32 := BitVec.ofNat 32 (i 1).val
  let c1_i32 : BitVec 32 := 1#32
  let v0 : BitVec 32 := Scalar.addi arg1 c1_i32
  let c33_i32 : BitVec 32 := 33#32
  let v1 : BitVec 32 := Scalar.minsi v0 c33_i32
  let v73 : BitVec 32 := Scalar.subi v1 c0_i32_34
  let c1_i32_36 : BitVec 32 := 1#32
  let v75 : BitVec 32 := Scalar.divsi v73 c1_i32_36
  let v76 : BitVec 32 := Scalar.muli v75 c1_i32_36
  let v77 : BitVec 32 := Scalar.addi c0_i32_34 v76
  let v74 : BitVec 32 := Scalar.addi c0_i32_34 v73
  let c1_i32_38 : BitVec 32 := 1#32
  ⟨v77, v74, c1_i32_38⟩
def k0_off5 (i : grid0.Coords) (k0_t4 : Fin (k0_t4_loop i).trips) : Fin 3 → Nat :=
  let c0_63 : Index := 0#32
  let arg1 : BitVec 32 := BitVec.ofNat 32 (i 1).val
  let c1_i32_0 : BitVec 32 := 1#32
  let v2 : BitVec 32 := Scalar.addi arg1 c1_i32_0
  let c1_i32 : BitVec 32 := 1#32
  let v0 : BitVec 32 := Scalar.addi arg1 c1_i32
  let c33_i32 : BitVec 32 := 33#32
  let v1 : BitVec 32 := Scalar.minsi v0 c33_i32
  let v3 : BitVec 32 := Scalar.subi v2 v1
  let c0_i32_34 : BitVec 32 := 0#32
  let v73 : BitVec 32 := Scalar.subi v1 c0_i32_34
  let c1_i32_36 : BitVec 32 := 1#32
  let v75 : BitVec 32 := Scalar.divsi v73 c1_i32_36
  let v76 : BitVec 32 := Scalar.muli v75 c1_i32_36
  let v77 : BitVec 32 := Scalar.addi c0_i32_34 v76
  let c1_i32_38 : BitVec 32 := 1#32
  let arg12 : BitVec 32 := Scf.iv v77 c1_i32_38 k0_t4
  let v137 : BitVec 32 := Scalar.addi v3 arg12
  let c128_i32_62 : BitVec 32 := 128#32
  let v138 : BitVec 32 := Scalar.muli v137 c128_i32_62
  let v139 : Index := Scalar.indexCast v138
  let c0_64 : Index := 0#32
  ![0, v139.toNat, 0]
def k0_off6 (i : grid0.Coords) (k0_t4 : Fin (k0_t4_loop i).trips) : Fin 3 → Nat :=
  let c0_77 : Index := 0#32
  let c0_78 : Index := 0#32
  let arg1 : BitVec 32 := BitVec.ofNat 32 (i 1).val
  let c1_i32_0 : BitVec 32 := 1#32
  let v2 : BitVec 32 := Scalar.addi arg1 c1_i32_0
  let c1_i32 : BitVec 32 := 1#32
  let v0 : BitVec 32 := Scalar.addi arg1 c1_i32
  let c33_i32 : BitVec 32 := 33#32
  let v1 : BitVec 32 := Scalar.minsi v0 c33_i32
  let v3 : BitVec 32 := Scalar.subi v2 v1
  let c0_i32_34 : BitVec 32 := 0#32
  let v73 : BitVec 32 := Scalar.subi v1 c0_i32_34
  let c1_i32_36 : BitVec 32 := 1#32
  let v75 : BitVec 32 := Scalar.divsi v73 c1_i32_36
  let v76 : BitVec 32 := Scalar.muli v75 c1_i32_36
  let v77 : BitVec 32 := Scalar.addi c0_i32_34 v76
  let c1_i32_38 : BitVec 32 := 1#32
  let arg12 : BitVec 32 := Scf.iv v77 c1_i32_38 k0_t4
  let v173 : BitVec 32 := Scalar.addi v3 arg12
  let c128_i32_76 : BitVec 32 := 128#32
  let v174 : BitVec 32 := Scalar.muli v173 c128_i32_76
  let v175 : Index := Scalar.indexCast v174
  ![0, 0, v175.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x8192x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x8192 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S8x8192x1024 : Shape := ⟨3, ![8, 8192, 1024]⟩
abbrev S8 : Shape := ⟨1, ![8]⟩
abbrev S8x8192x128 : Shape := ⟨3, ![8, 8192, 128]⟩
abbrev S1 : Shape := ⟨1, ![1]⟩
abbrev S_ : Shape := ⟨0, ![]⟩
abbrev S1x8x1x1 : Shape := ⟨4, ![1, 8, 1, 1]⟩
abbrev S8x8192x8x128 : Shape := ⟨4, ![8, 8192, 8, 128]⟩
abbrev S8x8x8192x128 : Shape := ⟨4, ![8, 8, 8192, 128]⟩
abbrev S8x65536x128 : Shape := ⟨3, ![8, 65536, 128]⟩
abbrev S8x65536x8192 : Shape := ⟨3, ![8, 65536, 8192]⟩
abbrev S8x8x8192x8192 : Shape := ⟨4, ![8, 8, 8192, 8192]⟩
abbrev S8x8x8192 : Shape := ⟨3, ![8, 8, 8192]⟩
abbrev S8x8x8192x1 : Shape := ⟨4, ![8, 8, 8192, 1]⟩

abbrev nBuf : Space → Nat
  | .hbm => 13
  | .vmem => 5
  | .smem => 1
  | _ => 0

abbrev bufTy : (tb : Table) → Fin (tcTables nBuf tb) → BufTy
  | .hbm, ⟨0, _⟩ => ⟨S8x8192x1024, .fp8e4m3⟩
  | .hbm, ⟨1, _⟩ => ⟨S8, .f32⟩
  | .hbm, ⟨2, _⟩ => ⟨S8x8192x128, .fp8e4m3⟩
  | .hbm, ⟨3, _⟩ => ⟨S1, .f32⟩
  | .hbm, ⟨4, _⟩ => ⟨S8x8192x128, .fp8e4m3⟩
  | .hbm, ⟨5, _⟩ => ⟨S1, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S1x8x1x1, .f32⟩
  | .hbm, ⟨12, _⟩ => ⟨S8x8192x1024, .bf16⟩
  | .local _ .vmem, ⟨0, _⟩ => ⟨S8x8192x1024, .fp8e4m3⟩
  | .local _ .vmem, ⟨1, _⟩ => ⟨S1x8x1x1, .f32⟩
  | .local _ .vmem, ⟨2, _⟩ => ⟨S8x8192x128, .fp8e4m3⟩
  | .local _ .vmem, ⟨3, _⟩ => ⟨S8x8192x128, .fp8e4m3⟩
  | .local _ .vmem, ⟨4, _⟩ => ⟨S8x8192x1024, .bf16⟩
  | .local _ .smem, ⟨0, _⟩ => ⟨S1, .f32⟩
  | _, _ => ⟨S8x8192x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg2_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8x8192x1024 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x8x1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x8192x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x8192x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x8192x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Softmax.lean ====
/-
  The algebra of one output element, over the extended reals, with no program in sight (hand-written, untrusted).
  A row of scores is weighted in base two by the kernel, with the exponent offset by 8, and in base `e` by the
  reference, with the weights multiplied by 256 afterwards. `attention_eq` says that the two quotients are equal, whatever
  the scores, the values and the value scale are, as soon as the score scale is not negative and one key is visible.
-/
module

public import Idealize.ShloMosaic.PureOps.Ideal
public import Idealize.ShloMosaic.PureOps.Ideal.Laws

@[expose] public section

noncomputable section

namespace Cert.Softmax

open Idealize.ShloMosaic

/-- The binary logarithm of `e`, which the kernel multiplies its score scale by. -/
def log2e : EReal := (((Real.log 2)⁻¹ : ℝ) : EReal)

theorem log_two_pos : (0 : ℝ) < (Real.log 2)⁻¹ := inv_pos.mpr (Real.log_pos (by norm_num))

/-- Base two with the exponent raised by 8 is 256 times base `e`, on every pair of extended reals. -/
theorem exp2_offset (a m : EReal) :
    Ideal.exp2 (a * log2e - (m * log2e - ((8 : ℝ) : EReal))) = ((256 : ℝ) : EReal) * Ideal.exp (a - m) := by
  have hL := log_two_pos
  unfold log2e
  have h256 : ((256 : ℝ) : EReal) * ⊤ = ⊤ := EReal.coe_mul_top_of_pos (by norm_num)
  induction a with
  | bot =>
    rw [EReal.bot_mul_coe_of_pos hL, EReal.bot_sub, EReal.bot_sub]
    simp
  | top =>
    rw [EReal.top_mul_coe_of_pos hL]
    induction m with
    | bot => rw [EReal.bot_mul_coe_of_pos hL]; simp [h256]
    | top => rw [EReal.top_mul_coe_of_pos hL]; simp
    | coe m => rw [← EReal.coe_mul, ← EReal.coe_sub, EReal.top_sub_coe, EReal.top_sub_coe]; simp [h256]
  | coe a =>
    induction m with
    | bot => rw [EReal.bot_mul_coe_of_pos hL, ← EReal.coe_mul, EReal.bot_sub, EReal.coe_sub_bot, EReal.coe_sub_bot]; simp [h256]
    | top => rw [EReal.top_mul_coe_of_pos hL, ← EReal.coe_mul]; simp
    | coe m =>
      rw [← EReal.coe_mul, ← EReal.coe_mul, ← EReal.coe_sub, ← EReal.coe_sub, ← EReal.coe_sub]
      show ((Real.rpow 2 _ : ℝ) : EReal) = _ * ((Real.exp _ : ℝ) : EReal)
      rw [← EReal.coe_mul]
      congr 1
      change (2 : ℝ) ^ (a * (Real.log 2)⁻¹ - (m * (Real.log 2)⁻¹ - 8)) = _
      have h2 : Real.log 2 ≠ 0 := (Real.log_pos (by norm_num)).ne'
      rw [Real.rpow_def_of_pos (by norm_num),
        show Real.log 2 * (a * (Real.log 2)⁻¹ - (m * (Real.log 2)⁻¹ - 8)) = (a - m) + 8 * Real.log 2 by field_simp; ring,
        Real.exp_add, mul_comm (256 : ℝ)]
      congr 1
      rw [show (8 : ℝ) * Real.log 2 = Real.log (2 ^ 8) by rw [Real.log_pow]; norm_num, Real.exp_log (by norm_num)]
      norm_num

/-- The weight of a score no greater than the row's maximum is a real number that is not negative. -/
theorem exp_sub_real {a m : EReal} (h : a ≤ m) : ∃ r : ℝ, 0 ≤ r ∧ Ideal.exp (a - m) = (r : EReal) := by
  induction a with
  | bot => exact ⟨0, le_rfl, by simp⟩
  | top =>
    rw [top_le_iff] at h; subst h
    exact ⟨0, le_rfl, by simp⟩
  | coe a =>
    induction m with
    | bot => simp at h
    | top => exact ⟨0, le_rfl, by simp⟩
    | coe m => exact ⟨Real.exp (a - m), (Real.exp_pos _).le, by rw [← EReal.coe_sub]; rfl⟩

/-- A sum of real numbers, taken in the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert i s hi ih => rw [Finset.sum_insert hi, Finset.sum_insert hi, ih, EReal.coe_add]

/-- Dividing by 256 before the quotient by a row sum, or as part of it, is the same; also where the sum is zero. -/
theorem div_scaled (x vs : EReal) (r : ℝ) :
    Ideal.div (x * vs) (((256 : ℝ) : EReal) * (r : EReal)) = Ideal.div (x * (vs * ((256⁻¹ : ℝ) : EReal))) (r : EReal) := by
  have hsplit : x * (vs * ((256⁻¹ : ℝ) : EReal)) = (x * vs) * ((256⁻¹ : ℝ) : EReal) := (mul_assoc _ _ _).symm
  rw [hsplit]
  generalize x * vs = y
  by_cases hr : r = 0
  · subst hr
    have h256 : (0 : ℝ) < 256⁻¹ := by norm_num
    have hz : ((256 : ℝ) : EReal) * ((0 : ℝ) : EReal) = 0 := by simp
    rw [hz, EReal.coe_zero]
    induction y with
    | bot => rw [EReal.bot_mul_coe_of_pos h256]
    | top => rw [EReal.top_mul_coe_of_pos h256]
    | coe y =>
      rw [← EReal.coe_mul]
      unfold Ideal.div
      simp only [ne_eq, not_true_eq_false, ↓reduceIte]
      have h1 : ((0 : EReal) < ((y * 256⁻¹ : ℝ) : EReal)) ↔ ((0 : EReal) < (y : EReal)) := by
        rw [EReal.coe_pos, EReal.coe_pos]; constructor <;> intro h
        · nlinarith
        · positivity
      simp only [h1]
  · rw [← EReal.coe_mul, Ideal.div_coe (mul_ne_zero (by norm_num) hr), Ideal.div_coe hr, mul_assoc, ← EReal.coe_mul]
    congr 2
    field_simp

/-- The clip both programs apply to a weight before it becomes a code. -/
def clip (p : EReal) : EReal := min ((448 : ℝ) : EReal) (max ((-448 : ℝ) : EReal) p)

theorem clip_zero : clip 0 = 0 := by
  unfold clip
  rw [max_eq_right (by rw [← EReal.coe_zero, EReal.coe_le_coe_iff]; norm_num),
    min_eq_right (by rw [← EReal.coe_zero, EReal.coe_le_coe_iff]; norm_num)]

section Row

variable {ι : Type} [Fintype ι] (vis : ι → Prop) [DecidablePred vis] (s v : ι → EReal) (q vs : EReal)

/-- The reference's score of a key: the product times the score scale where the key is visible, minus infinity elsewhere. -/
def refScore (i : ι) : EReal := if vis i then s i * q else ⊥

/-- The reference's weight of a key. -/
def refWeight (i : ι) : EReal := Ideal.exp (refScore vis s q i - Finset.univ.sup (refScore vis s q))

/-- The reference's output element. -/
def refOut : EReal :=
  Ideal.div ((∑ i, clip (refWeight vis s q i * ((256 : ℝ) : EReal)) * v i) * (vs * ((256⁻¹ : ℝ) : EReal)))
    (∑ i, refWeight vis s q i)

/-- The kernel's greatest product over the visible keys among those it visits. -/
def kerMax (N : Finset ι) : EReal := N.sup fun i => if vis i then s i else ⊥

/-- The kernel's scale of an exponent: the magnitude of the score scale times the binary logarithm of `e`. -/
def kerScale : EReal := max q (-q) * log2e

/-- The kernel's weight of a key it visits. -/
def kerWeight (N : Finset ι) (i : ι) : EReal :=
  Ideal.exp2 (if vis i then s i * kerScale q - (kerMax vis s N * kerScale q - ((8 : ℝ) : EReal)) else ⊥)

/-- The kernel's output element. -/
def kerOut (N : Finset ι) : EReal :=
  Ideal.div ((∑ i ∈ N, v i * clip (kerWeight vis s q N i)) * vs) (∑ i ∈ N, kerWeight vis s q N i)

variable {vis s v q vs}

/-- The scaled maximum of the products is the maximum of the scaled products, for a scale that is not negative. -/
theorem kerMax_mul (hq : 0 ≤ q) (N : Finset ι) (hN : ∀ i, vis i → i ∈ N) (hne : ∃ i, vis i) :
    kerMax vis s N * q = Finset.univ.sup (refScore vis s q) := by
  classical
  obtain ⟨i₀, hi₀⟩ := hne
  obtain ⟨k, hk, hmax⟩ := Finset.exists_max_image (Finset.univ.filter vis) s ⟨i₀, by simp [hi₀]⟩
  have hk' : vis k := by simpa using hk
  have hmax' : ∀ i, vis i → s i ≤ s k := fun i hi => hmax i (by simp [hi])
  have h1 : kerMax vis s N = s k := by
    apply le_antisymm
    · refine Finset.sup_le fun i _ => ?_
      by_cases hi : vis i
      · simp only [hi, ↓reduceIte]; exact hmax' i hi
      · simp [hi]
    · have := Finset.le_sup (f := fun i => if vis i then s i else ⊥) (hN k hk')
      simp only [hk', ↓reduceIte] at this
      exact this
  have h2 : Finset.univ.sup (refScore vis s q) = s k * q := by
    apply le_antisymm
    · refine Finset.sup_le fun i _ => ?_
      unfold refScore
      by_cases hi : vis i
      · simp only [hi, ↓reduceIte]; exact mul_le_mul_of_nonneg_right (hmax' i hi) hq
      · simp [hi]
    · have := Finset.le_sup (f := refScore vis s q) (Finset.mem_univ k)
      simpa [refScore, hk'] using this
  rw [h1, h2]

/-- Each weight of the kernel is 256 times the reference's. -/
theorem kerWeight_eq (hq : 0 ≤ q) (N : Finset ι) (hN : ∀ i, vis i → i ∈ N) (hne : ∃ i, vis i) (i : ι) :
    kerWeight vis s q N i = ((256 : ℝ) : EReal) * refWeight vis s q i := by
  have habs : max q (-q) = q := max_eq_left (le_trans (EReal.neg_le_neg_iff.mpr hq |>.trans (by simp)) hq)
  unfold kerWeight refWeight kerScale
  rw [habs, ← mul_assoc (kerMax vis s N), kerMax_mul hq N hN hne]
  by_cases hi : vis i
  · rw [if_pos hi, ← mul_assoc, show refScore vis s q i = s i * q by simp [refScore, hi]]
    exact exp2_offset _ _
  · rw [if_neg hi, show refScore vis s q i = ⊥ by simp [refScore, hi], EReal.bot_sub]
    simp

/-- The reference's weights are real and not negative. -/
theorem refWeight_real (i : ι) : ∃ r : ℝ, 0 ≤ r ∧ refWeight vis s q i = (r : EReal) :=
  exp_sub_real (Finset.le_sup (Finset.mem_univ i))

/-- A key that is not visible has no weight in the reference. -/
theorem refWeight_hidden (i : ι) (hi : ¬ vis i) : refWeight vis s q i = 0 := by
  unfold refWeight
  rw [show refScore vis s q i = ⊥ by simp [refScore, hi], EReal.bot_sub]; simp

/-- THE EQUATION: the kernel's output element, over any set of keys that holds every visible one, is the reference's. -/
theorem attention_eq (hq : 0 ≤ q) (N : Finset ι) (hN : ∀ i, vis i → i ∈ N) (hne : ∃ i, vis i) :
    kerOut vis s v q vs N = refOut vis s v q vs := by
  classical
  choose r hr0 hr using fun i => refWeight_real (vis := vis) (s := s) (q := q) i
  have hout : ∀ i, i ∉ N → refWeight vis s q i = 0 := fun i hi => refWeight_hidden i fun h => hi (hN i h)
  have hsum : ∑ i ∈ N, kerWeight vis s q N i = ((256 : ℝ) : EReal) * ((∑ i ∈ N, r i : ℝ) : EReal) := by
    rw [← EReal.coe_mul, Finset.mul_sum, ← coe_sum]
    refine Finset.sum_congr rfl fun i _ => ?_
    rw [kerWeight_eq hq N hN hne, hr, EReal.coe_mul]
  have hsum' : ∑ i, refWeight vis s q i = ((∑ i ∈ N, r i : ℝ) : EReal) := by
    rw [← coe_sum, ← Finset.sum_subset (Finset.subset_univ N) fun i _ hi => hout i hi]
    exact Finset.sum_congr rfl fun i _ => hr i
  have hacc : ∑ i ∈ N, v i * clip (kerWeight vis s q N i) = ∑ i, clip (refWeight vis s q i * ((256 : ℝ) : EReal)) * v i := by
    rw [← Finset.sum_subset (Finset.subset_univ N) fun i _ hi => by rw [hout i hi, zero_mul, clip_zero, zero_mul]]
    refine Finset.sum_congr rfl fun i _ => ?_
    rw [kerWeight_eq hq N hN hne, mul_comm (v i), mul_comm ((256 : ℝ) : EReal) _]
  unfold kerOut refOut
  rw [hsum, hsum', hacc]
  exact div_scaled _ _ _

end Row

end Cert.Softmax

end
-- ==== Proof.Tiles.lean ====
/-
  Sums and maxima over ranges of keys, one tile of 128 keys at a time (hand-written, untrusted; no program in sight).
  The kernel keeps eight partial maxima and eight partial sums per query: partial `r` is over the keys that are `r` modulo 8.
-/
module

public import Mathlib.Data.EReal.Operations
public import Mathlib.Algebra.BigOperators.Fin

@[expose] public section

noncomputable section

namespace Cert.Tiles

/-- The keys from `lo` up to and not including `hi`. -/
def keys (lo hi : ℕ) : Finset (Fin 8192) := Finset.univ.filter fun κ => lo ≤ κ.val ∧ κ.val < hi

/-- Those among them that are `r` modulo 8. -/
def keysMod (lo hi r : ℕ) : Finset (Fin 8192) := Finset.univ.filter fun κ => (lo ≤ κ.val ∧ κ.val < hi) ∧ κ.val % 8 = r

theorem mem_keys {lo hi : ℕ} {κ : Fin 8192} : κ ∈ keys lo hi ↔ lo ≤ κ.val ∧ κ.val < hi := by simp [keys]

theorem mem_keysMod {lo hi r : ℕ} {κ : Fin 8192} : κ ∈ keysMod lo hi r ↔ (lo ≤ κ.val ∧ κ.val < hi) ∧ κ.val % 8 = r := by
  simp [keysMod]

theorem keys_self (lo : ℕ) : keys lo lo = ∅ := by
  ext κ; simp only [mem_keys, Finset.notMem_empty, iff_false]; omega

theorem keysMod_self (lo r : ℕ) : keysMod lo lo r = ∅ := by
  ext κ; simp only [mem_keysMod, Finset.notMem_empty, iff_false]; omega

/-- The left fold of `max` from minus infinity is the supremum. -/
theorem fold_max_eq_sup {ι : Type} (s : Finset ι) (f : ι → EReal) : s.fold max ⊥ f = s.sup f := rfl

/-- Row `8 g + r` of the tile that starts at `hi`. -/
def modKey (hi : ℕ) (h : hi + 128 ≤ 8192) (r : Fin 8) (g : Fin 16) : Fin 8192 := ⟨hi + (g.val * 8 + r.val), by omega⟩

/-- Row `a` of the tile that starts at `hi`. -/
def tileKey (hi : ℕ) (h : hi + 128 ≤ 8192) (a : Fin 128) : Fin 8192 := ⟨hi + a.val, by omega⟩

theorem keysMod_succ (lo hi : ℕ) (hlo : lo ≤ hi) (h8 : 8 ∣ hi) (h : hi + 128 ≤ 8192) (r : Fin 8) :
    keysMod lo (hi + 128) r = keysMod lo hi r ∪ Finset.univ.image (modKey hi h r) := by
  ext κ
  simp only [Finset.mem_union, mem_keysMod, Finset.mem_image, Finset.mem_univ, true_and]
  constructor
  · rintro ⟨⟨h1, h2⟩, h3⟩
    by_cases hk : κ.val < hi
    · exact .inl ⟨⟨h1, hk⟩, h3⟩
    · refine .inr ⟨⟨(κ.val - hi) / 8, by omega⟩, Fin.ext ?_⟩
      show hi + ((κ.val - hi) / 8 * 8 + r.val) = κ.val
      omega
  · rintro (⟨⟨h1, h2⟩, h3⟩ | ⟨g, rfl⟩)
    · exact ⟨⟨h1, by omega⟩, h3⟩
    · show (lo ≤ hi + (g.val * 8 + r.val) ∧ hi + (g.val * 8 + r.val) < hi + 128) ∧ (hi + (g.val * 8 + r.val)) % 8 = r.val
      omega

theorem keysMod_disjoint (lo hi : ℕ) (h : hi + 128 ≤ 8192) (r : Fin 8) :
    Disjoint (keysMod lo hi r) (Finset.univ.image (modKey hi h r)) := by
  rw [Finset.disjoint_left]
  rintro κ h1 h2
  obtain ⟨g, -, rfl⟩ := Finset.mem_image.mp h2
  have h3 : hi + (g.val * 8 + r.val) < hi := (mem_keysMod.mp h1).1.2
  omega

theorem modKey_injective (hi : ℕ) (h : hi + 128 ≤ 8192) (r : Fin 8) : Function.Injective (modKey hi h r) := by
  intro g g' hg
  have : hi + (g.val * 8 + r.val) = hi + (g'.val * 8 + r.val) := congrArg Fin.val hg
  exact Fin.ext (by omega)

/-- One more tile in the partial sum `r`. -/
theorem sum_keysMod_succ (lo hi : ℕ) (hlo : lo ≤ hi) (h8 : 8 ∣ hi) (h : hi + 128 ≤ 8192) (r : Fin 8) (f : Fin 8192 → EReal) :
    ∑ κ ∈ keysMod lo (hi + 128) r, f κ = ∑ κ ∈ keysMod lo hi r, f κ + ∑ g : Fin 16, f (modKey hi h r g) := by
  rw [keysMod_succ lo hi hlo h8 h r, Finset.sum_union (keysMod_disjoint lo hi h r),
    Finset.sum_image fun _ _ _ _ hg => modKey_injective hi h r hg]

/-- One more tile in the partial maximum `r`. -/
theorem sup_keysMod_succ (lo hi : ℕ) (hlo : lo ≤ hi) (h8 : 8 ∣ hi) (h : hi + 128 ≤ 8192) (r : Fin 8) (f : Fin 8192 → EReal) :
    (keysMod lo (hi + 128) r).sup f = max ((keysMod lo hi r).sup f) (Finset.univ.sup fun g : Fin 16 => f (modKey hi h r g)) := by
  rw [keysMod_succ lo hi hlo h8 h r, Finset.sup_union, Finset.sup_image]
  rfl

theorem keys_succ (lo hi : ℕ) (hlo : lo ≤ hi) (h : hi + 128 ≤ 8192) :
    keys lo (hi + 128) = keys lo hi ∪ Finset.univ.image (tileKey hi h) := by
  ext κ
  simp only [Finset.mem_union, mem_keys, Finset.mem_image, Finset.mem_univ, true_and]
  constructor
  · rintro ⟨h1, h2⟩
    by_cases hk : κ.val < hi
    · exact .inl ⟨h1, hk⟩
    · refine .inr ⟨⟨κ.val - hi, by omega⟩, Fin.ext ?_⟩
      show hi + (κ.val - hi) = κ.val
      omega
  · rintro (⟨h1, h2⟩ | ⟨a, rfl⟩)
    · exact ⟨h1, by omega⟩
    · show lo ≤ hi + a.val ∧ hi + a.val < hi + 128
      omega

/-- One more tile in a sum over all the keys of a range. -/
theorem sum_keys_succ (lo hi : ℕ) (hlo : lo ≤ hi) (h : hi + 128 ≤ 8192) (f : Fin 8192 → EReal) :
    ∑ κ ∈ keys lo (hi + 128), f κ = ∑ κ ∈ keys lo hi, f κ + ∑ a : Fin 128, f (tileKey hi h a) := by
  rw [keys_succ lo hi hlo h, Finset.sum_union, Finset.sum_image]
  · intro a _ a' _ ha
    have : hi + a.val = hi + a'.val := congrArg Fin.val ha
    exact Fin.ext (by omega)
  · rw [Finset.disjoint_left]
    rintro κ h1 h2
    obtain ⟨a, -, rfl⟩ := Finset.mem_image.mp h2
    have h3 : hi + a.val < hi := (mem_keys.mp h1).2
    omega

/-- The eight partial sums make up the sum. -/
theorem sum_rows (lo hi : ℕ) (f : Fin 8192 → EReal) :
    ∑ r : Fin 8, ∑ κ ∈ keysMod lo hi r, f κ = ∑ κ ∈ keys lo hi, f κ := by
  rw [← Finset.sum_fiberwise_of_maps_to (s := keys lo hi) (t := Finset.univ)
    (g := fun κ : Fin 8192 => (⟨κ.val % 8, by omega⟩ : Fin 8)) fun _ _ => Finset.mem_univ _]
  refine Finset.sum_congr rfl fun r _ => Finset.sum_congr ?_ fun _ _ => rfl
  ext κ
  simp only [mem_keysMod, Finset.mem_filter, mem_keys, Fin.ext_iff]

/-- The eight partial maxima make up the maximum. -/
theorem sup_rows (lo hi : ℕ) (f : Fin 8192 → EReal) :
    (Finset.univ.sup fun r : Fin 8 => (keysMod lo hi r).sup f) = (keys lo hi).sup f := by
  apply le_antisymm
  · refine Finset.sup_le fun r _ => Finset.sup_mono fun κ hκ => ?_
    exact mem_keys.mpr (mem_keysMod.mp hκ).1
  · refine Finset.sup_le fun κ hκ => ?_
    have h1 : κ ∈ keysMod lo hi ((⟨κ.val % 8, by omega⟩ : Fin 8) : ℕ) := mem_keysMod.mpr ⟨mem_keys.mp hκ, rfl⟩
    exact (Finset.le_sup (f := f) h1).trans
      (Finset.le_sup (f := fun r : Fin 8 => (keysMod lo hi r).sup f) (Finset.mem_univ _))

end Cert.Tiles

end
-- ==== Proof.Payloads.lean ====
/-
  What the kernel's stores compute, read at an index down to scalars over the extended reals (hand-written, untrusted).
-/
module

public import proofs.«01_k».proof.Proof.Gen.KernelIdeal.Skeleton
public import Idealize.ShloMosaic.Lib.Pointwise
public import proofs.«01_k».proof.Proof.Softmax
public import proofs.«01_k».proof.Proof.Tiles

@[expose] public section

set_option maxRecDepth 16384

noncomputable section

namespace Cert.KernelIdeal.Block

open Idealize.ShloMosaic Idealize.ShloMosaic.TcCoe Idealize.SL.Sem
open Cert.KernelIdeal.Gen Cert.Softmax

/-! ## Constants -/

theorem ofBits_bot : Ideal.ofBits FTy.f32 0xFF800000#32 = ⊥ := by simp [Ideal.ofBits, Ideal.ieee]
theorem ofBits_eight : Ideal.ofBits FTy.f32 0x41000000#32 = ((8 : ℝ) : EReal) := by
  simp [Ideal.ofBits, Ideal.ieee, -EReal.coe_mul]; norm_num
theorem ofBits_max : Ideal.ofBits FTy.f32 0x43E00000#32 = ((448 : ℝ) : EReal) := by
  simp [Ideal.ofBits, Ideal.ieee, -EReal.coe_mul]; norm_num
theorem ofBits_min : Ideal.ofBits FTy.f32 0xC3E00000#32 = ((-448 : ℝ) : EReal) := by
  simp [Ideal.ofBits, Ideal.ieee, -EReal.coe_mul]; norm_num
theorem log2e_named : Named.named (F := Ideal) Cert.KernelIdeal.κ "log2e" (φ := .f32) 0x3FB8AA3B#32 = log2e :=
  IdealRules.named_const.ideal_named_scalar _ _ _ _ rfl

/-! ## The words the mask is made of -/

/-- The first tile a grid point visits, as the kernel computes it. -/
abbrev firstW (n : ℕ) : BitVec 32 :=
  Scalar.subi (Scalar.addi (BitVec.ofNat 32 n) 1#32) (Scalar.minsi (Scalar.addi (BitVec.ofNat 32 n) 1#32) 33#32)

/-- The first tile is the query tile's number less 32, or 0. -/
theorem firstW_eq : ∀ n : Fin 64, firstW n.val = BitVec.ofNat 32 (n.val - 32) := by decide +kernel

/-- Column `l` of the transposed block is query `l % 128` of the tile. -/
theorem tok_at (a : Fin 128) (l : Fin 1024) :
    k0_pay16 128#32 k0_pay14 k0_pay15 (ix2 a l) = BitVec.ofNat 32 (l.val % 128) := by
  pointwise [k0_pay14, k0_pay15, k0_pay16]
  revert l; decide +kernel

/-- The mask's word, of the trip `k`, the query `t` of the tile and the key `a` of the tile. -/
abbrev maskW (n k t a : ℕ) : BitVec 1 :=
  IntOp.andi
    (IntOp.cmpi CmpIPredicate.sge
      (IntOp.subi (IntOp.addi (Scalar.muli (Scalar.subi (Scalar.subi (BitVec.ofNat 32 n) (firstW n)) (Scf.iv 0#32 1#32 k)) 128#32)
        (BitVec.ofNat 32 t)) (BitVec.ofNat 32 a)) 0#32)
    (IntOp.cmpi CmpIPredicate.slt
      (IntOp.subi (IntOp.addi (Scalar.muli (Scalar.subi (Scalar.subi (BitVec.ofNat 32 n) (firstW n)) (Scf.iv 0#32 1#32 k)) 128#32)
        (BitVec.ofNat 32 t)) (BitVec.ofNat 32 a)) 4096#32)

/-- The distance in tiles, as the kernel computes it. -/
theorem distW_eq : ∀ (n : Fin 64) (k : Fin 33), k.val ≤ n.val →
    Scalar.muli (Scalar.subi (Scalar.subi (BitVec.ofNat 32 n.val) (firstW n.val)) (Scf.iv 0#32 1#32 k.val)) 128#32
      = BitVec.ofNat 32 ((n.val - (n.val - 32) - k.val) * 128) := by decide +kernel

theorem mask_scalar (d t a : ℕ) (hd : d < 8192) (ht : t < 128) (ha : a < 128) :
    IntOp.andi
        (IntOp.cmpi CmpIPredicate.sge (IntOp.subi (IntOp.addi (BitVec.ofNat 32 d) (BitVec.ofNat 32 t)) (BitVec.ofNat 32 a)) 0#32)
        (IntOp.cmpi CmpIPredicate.slt (IntOp.subi (IntOp.addi (BitVec.ofNat 32 d) (BitVec.ofNat 32 t)) (BitVec.ofNat 32 a)) 4096#32)
      = if a ≤ d + t ∧ d + t < a + 4096 then 1#1 else 0#1 := by
  have h : (IntOp.subi (IntOp.addi (BitVec.ofNat 32 d) (BitVec.ofNat 32 t)) (BitVec.ofNat 32 a)).toInt = (d + t : ℤ) - a := by
    show (BitVec.ofNat 32 d + BitVec.ofNat 32 t - BitVec.ofNat 32 a).toInt = _
    have e : ∀ n : ℕ, n < 8192 → (BitVec.ofNat 32 n).toInt = (n : ℤ) := fun n hn => by
      rw [BitVec.toInt_eq_toNat_bmod, BitVec.toNat_ofNat, Nat.mod_eq_of_lt (by omega)]
      exact Int.bmod_eq_of_le (by omega) (by omega)
    rw [BitVec.toInt_sub, BitVec.toInt_add, e d hd, e t (by omega), e a (by omega), Int.bmod_eq_of_le (n := (d : ℤ) + t) (by omega) (by omega)]
    exact Int.bmod_eq_of_le (by omega) (by omega)
  generalize IntOp.subi (IntOp.addi (BitVec.ofNat 32 d) (BitVec.ofNat 32 t)) (BitVec.ofNat 32 a) = w at h
  have h0 : (0#32 : BitVec 32).toInt = 0 := by decide
  have h1 : (4096#32 : BitVec 32).toInt = 4096 := by decide
  show BitVec.ofBool (BitVec.sle 0#32 w) &&& BitVec.ofBool (BitVec.slt w 4096#32) = _
  rw [BitVec.sle_eq_decide, BitVec.slt_eq_decide, h0, h1, h]
  by_cases h2 : a ≤ d + t <;> by_cases h3 : d + t < a + 4096
  · rw [if_pos ⟨h2, h3⟩, decide_eq_true (by omega), decide_eq_true (by omega)]; decide
  · rw [if_neg (fun h => h3 h.2), decide_eq_true (by omega), decide_eq_false (by omega)]; decide
  · rw [if_neg (fun h => h2 h.1), decide_eq_false (by omega), decide_eq_true (by omega)]; decide
  · rw [if_neg (fun h => h3 h.2), decide_eq_false (by omega), decide_eq_false (by omega)]; decide

/-- The keys a query sees: itself and the 4095 before it. -/
abbrev vis (t : ℕ) (κ : Fin 8192) : Prop := κ.val ≤ t ∧ t < κ.val + 4096

/-- The mask lets the keys through that the query sees. -/
theorem select_mask (n : Fin 64) (k t a : ℕ) (hk : k ≤ n.val - (n.val - 32)) (ht : t < 128) (ha : a < 128) (κ : Fin 8192)
    (hκ : κ.val = (n.val - 32 + k) * 128 + a) (x y : EReal) :
    Scalar.select (maskW n.val k t a) x y = if vis (n.val * 128 + t) κ then x else y := by
  have hw : maskW n.val k t a = if a ≤ (n.val - (n.val - 32) - k) * 128 + t ∧ (n.val - (n.val - 32) - k) * 128 + t < a + 4096
      then 1#1 else 0#1 := by
    rw [← mask_scalar _ t a (by omega) ht ha, ← distW_eq n ⟨k, by omega⟩ (by show k ≤ n.val; omega)]
  rw [hw]
  by_cases h : vis (n.val * 128 + t) κ
  · rw [if_pos h, if_pos (by obtain ⟨h1, h2⟩ := h; constructor <;> omega)]; rfl
  · rw [if_neg h, if_neg (fun h' => h (by obtain ⟨h1, h2⟩ := h'; constructor <;> omega))]; rfl

/-- The score of a key for column `l` of the query block. -/
abbrev score (K : FVec Ideal S1x8192x128 .fp8e4m3) (q : FVec Ideal S1024x128 .fp8e4m3) (l : Fin 1024) (κ : Fin 8192) : EReal :=
  ∑ e : Fin 128, K (ix3 0 κ e) * q (ix2 l e)

section Pay

variable (i : grid0.Coords) (n : Fin 64) (q : FVec Ideal S1024x128 .fp8e4m3) (s : FVec Ideal S1x1024 .f32)
  (K : FVec Ideal S1x8192x128 .fp8e4m3) (tile : FVec Ideal S1x128x128 .fp8e4m3)

theorem pay17_at (r : Fin 8) (l : Fin 1024) : k0_pay17 (F := Ideal) (ix2 r l) = ⊥ := by
  pointwise [k0_pay17, ofBits_bot]

theorem pay21_at (r : Fin 8) (l : Fin 1024) : k0_pay21 (F := Ideal) (ix2 r l) = 0 := by
  pointwise [k0_pay21]

theorem pay22_at (d : Fin 128) (l : Fin 1024) : k0_pay22 (F := Ideal) (ix2 d l) = 0 := by
  pointwise [k0_pay22]

theorem pay13_at (x : FVec Ideal S1x1024 .f32) (l : Fin 1024) :
    k0_pay13 (F := Ideal) x (ix2 0 l) = x (ix2 0 l) * log2e := by
  pointwise [k0_pay13, log2e_named]

/-- One trip of the first loop: row `r` of the running maxima takes in the scores of its sixteen keys. -/
theorem pay18_at (k : Fin (k0_t1_loop i).trips) (hk : k.val ≤ n.val - (n.val - 32))
    (h : (n.val - 32 + k.val) * 128 + 128 ≤ 8192)
    (htile : ∀ a e, tile (ix3 0 a e) = K (ix3 0 (Tiles.tileKey _ h a) e))
    (M : FVec Ideal S8x1024 .f32) (r : Fin 8) (l : Fin 1024) :
    k0_pay18 i (BitVec.ofNat 32 n.val) (firstW n.val) q (iota Kind.tc S128x1024 32 [0] iota_S128x1024_d0_w32) 128#32
        k0_pay14 k0_pay15 k tile M (ix2 r l)
      = max (M (ix2 r l)) (Finset.univ.sup fun g : Fin 16 => if vis (n.val * 128 + l.val % 128) (Tiles.modKey _ h r g)
          then score K q l (Tiles.modKey _ h r g) else ⊥) := by
  pointwise [k0_pay18, tok_at]
  rw [ofBits_bot, Tiles.fold_max_eq_sup]
  congr 2
  funext g
  rw [select_mask n k (l.val % 128) (g.val * 8 + r.val) hk (by omega) (by omega) (Tiles.modKey _ h r g) rfl]
  simp only [htile]
  rfl

/-- The weight of a key in the kernel's softmax, of the scale and the shift of its query. -/
abbrev weight (l : Fin 1024) (c m : EReal) (κ : Fin 8192) : EReal :=
  Ideal.exp2 (if vis (n.val * 128 + l.val % 128) κ then score K q l κ * c - m else ⊥)

/-- One trip of the second loop: the weights of the tile. -/
theorem pay6_at (k : Fin (k0_t3_loop i).trips) (hk : k.val ≤ n.val - (n.val - 32))
    (h : (n.val - 32 + k.val) * 128 + 128 ≤ 8192)
    (htile : ∀ a e, tile (ix3 0 a e) = K (ix3 0 (Tiles.tileKey _ h a) e))
    (μ : FVec Ideal S1x1024 .f32) (a : Fin 128) (l : Fin 1024) :
    k0_pay6 i (BitVec.ofNat 32 n.val) (firstW n.val) q s (iota Kind.tc S128x1024 32 [0] iota_S128x1024_d0_w32)
        (k0_pay16 128#32 k0_pay14 k0_pay15) μ 0#32 1#32 k tile (ix2 a l)
      = weight n q K l (s (ix2 0 l)) (μ (ix2 0 l)) (Tiles.tileKey _ h a) := by
  pointwise [k0_pay6, tok_at]
  rw [ofBits_bot, select_mask n k (l.val % 128) a.val hk (by omega) (by omega) (Tiles.tileKey _ h a) rfl]
  simp only [htile]
  rfl

/-- One trip of the second loop: row `r` of the running sums takes in the weights of its sixteen keys. -/
theorem pay7_at (k : Fin (k0_t3_loop i).trips) (hk : k.val ≤ n.val - (n.val - 32))
    (h : (n.val - 32 + k.val) * 128 + 128 ≤ 8192)
    (htile : ∀ a e, tile (ix3 0 a e) = K (ix3 0 (Tiles.tileKey _ h a) e))
    (μ : FVec Ideal S1x1024 .f32) (L : FVec Ideal S8x1024 .f32) (r : Fin 8) (l : Fin 1024) :
    k0_pay7 i (BitVec.ofNat 32 n.val) (firstW n.val) q s (iota Kind.tc S128x1024 32 [0] iota_S128x1024_d0_w32)
        (k0_pay16 128#32 k0_pay14 k0_pay15) μ 0#32 1#32 k tile L (ix2 r l)
      = L (ix2 r l) + ∑ g : Fin 16, weight n q K l (s (ix2 0 l)) (μ (ix2 0 l)) (Tiles.modKey _ h r g) := by
  unfold k0_pay7
  have e := pay6_at i n q s K tile k hk h htile μ
  generalize k0_pay6 i (BitVec.ofNat 32 n.val) (firstW n.val) q s (iota Kind.tc S128x1024 32 [0] iota_S128x1024_d0_w32)
        (k0_pay16 128#32 k0_pay14 k0_pay15) μ 0#32 1#32 k tile = p at e ⊢
  pointwise []
  congr 1
  exact Finset.sum_congr rfl fun g _ => e _ _

/-- One trip of the second loop: the clipped weights of the tile. -/
theorem pay8_at (k : Fin (k0_t3_loop i).trips) (hk : k.val ≤ n.val - (n.val - 32))
    (h : (n.val - 32 + k.val) * 128 + 128 ≤ 8192)
    (htile : ∀ a e, tile (ix3 0 a e) = K (ix3 0 (Tiles.tileKey _ h a) e))
    (μ : FVec Ideal S1x1024 .f32) (a : Fin 128) (l : Fin 1024) :
    k0_pay8 i (BitVec.ofNat 32 n.val) (firstW n.val) q s (iota Kind.tc S128x1024 32 [0] iota_S128x1024_d0_w32)
        (k0_pay16 128#32 k0_pay14 k0_pay15) μ 0#32 1#32 k tile (ix2 a l)
      = clip (weight n q K l (s (ix2 0 l)) (μ (ix2 0 l)) (Tiles.tileKey _ h a)) := by
  unfold k0_pay8
  have e := pay6_at i n q s K tile k hk h htile μ
  generalize k0_pay6 i (BitVec.ofNat 32 n.val) (firstW n.val) q s (iota Kind.tc S128x1024 32 [0] iota_S128x1024_d0_w32)
        (k0_pay16 128#32 k0_pay14 k0_pay15) μ 0#32 1#32 k tile = p at e ⊢
  pointwise []
  rw [ofBits_min, ofBits_max, e]
  rfl

/-- One trip of the second loop: the running products take in the values of the tile. -/
theorem pay23_at (p : FVec Ideal S128x1024 .fp8e4m3) (v : FVec Ideal S1x128x128 .fp8e4m3) (A : FVec Ideal S128x1024 .f32)
    (d : Fin 128) (l : Fin 1024) :
    k0_pay23 p v A (ix2 d l) = A (ix2 d l) + ∑ a : Fin 128, v (ix3 0 d a) * p (ix2 a l) := by
  pointwise [k0_pay23]

/-- Between the loops: the largest score, scaled, less eight. -/
theorem pay20_at (M : FVec Ideal S8x1024 .f32) (l : Fin 1024) :
    k0_pay20 s M (ix2 0 l) = (Finset.univ.sup fun r : Fin 8 => M (ix2 r l)) * s (ix2 0 l) - ((8 : ℝ) : EReal) := by
  pointwise [k0_pay20]
  rw [ofBits_bot, Tiles.fold_max_eq_sup]
  exact congrArg _ ofBits_eight

end Pay

end Cert.KernelIdeal.Block

end
-- ==== Proof.Trips.lean ====
/-
  The kernel's two loops over the key tiles: what the running maxima, the running sums and the running products hold after any number of trips
  (hand-written, untrusted).
-/
module

public import proofs.«01_k».proof.Proof.Gen.KernelIdeal.Value
public import Idealize.ShloMosaic.Lib.Pipeline.ValueKit
public import proofs.«01_k».proof.Proof.Payloads

@[expose] public section

set_option maxRecDepth 16384

noncomputable section

namespace Cert.KernelIdeal.Block

open Idealize.ShloMosaic Idealize.ShloMosaic.TcCoe Idealize.SL.Sem
open Cert.KernelIdeal.Gen Cert.Softmax

/-! ## Counts and offsets -/

/-- A query tile visits the key tiles from `n - 32` (or 0) to its own. -/
theorem trips1_eq (i : grid0.Coords) : (k0_t1_loop i).trips = min ((i 1).val + 1) 33 := by
  have h : ∀ n : Fin 64, Scf.trips 0#32 (Scalar.addi 0#32 (Scalar.muli (Scalar.divsi (Scalar.subi
      (Scalar.minsi (Scalar.addi (BitVec.ofNat 32 n.val) 1#32) 33#32) 0#32) 1#32) 1#32)) 1#32 = min (n.val + 1) 33 := by
    decide +kernel
  exact h (i 1)

theorem trips3_eq (i : grid0.Coords) : (k0_t3_loop i).trips = min ((i 1).val + 1) 33 := trips1_eq i

theorem tileW_eq : ∀ (n : Fin 64) (k : Fin 33), k.val ≤ n.val →
    (Scalar.indexCast (Scalar.muli (Scalar.addi (firstW n.val) (Scf.iv 0#32 1#32 k.val)) 128#32)).toNat
      = (n.val - 32 + k.val) * 128 := by decide +kernel

theorem off1_eq (i : grid0.Coords) (k : Fin (k0_t1_loop i).trips) : k0_off1 i k = ![0, ((i 1).val - 32 + k.val) * 128, 0] := by
  have hk : k.val < min ((i 1).val + 1) 33 := lt_of_lt_of_eq k.isLt (trips1_eq i)
  have hi : (i 1).val < 64 := (i 1).isLt
  have h := tileW_eq (i 1) ⟨k.val, by omega⟩ (by show k.val ≤ (i 1).val; omega)
  exact congrArg (fun w => ![0, w, 0]) h

theorem off3_eq (i : grid0.Coords) (k : Fin (k0_t3_loop i).trips) : k0_off3 i k = ![0, ((i 1).val - 32 + k.val) * 128, 0] :=
  off1_eq i k

theorem off4_eq (i : grid0.Coords) (k : Fin (k0_t3_loop i).trips) : k0_off4 i k = ![0, 0, ((i 1).val - 32 + k.val) * 128] := by
  have hk : k.val < min ((i 1).val + 1) 33 := lt_of_lt_of_eq k.isLt (trips3_eq i)
  have hi : (i 1).val < 64 := (i 1).isLt
  have h := tileW_eq (i 1) ⟨k.val, by omega⟩ (by show k.val ≤ (i 1).val; omega)
  exact congrArg (fun w => ![0, 0, w]) h

/-! ## Loads -/

/-- A load of a whole buffer just after a store of the whole buffer. -/
theorem read_after_store {S : Shape} {e : EltTy} {sp : Space} (v : View sig .tc sp S e) {off off' : Fin S.rank → ℕ}
    (inb : ∀ a, off a + S.size a ≤ S.size a) (inb' : ∀ a, off' a + S.size a ≤ S.size a) (w : S.Idx → Elt Ideal e)
    (L : List (View.Piece (Elt Ideal) S e)) (f : v.ty.Contents (Elt Ideal)) (h : ∀ a, off a = 0) (h' : ∀ a, off' a = 0) :
    v.readAt (Elt Ideal) (Rect.unit off' S.size inb').toLoadRect
      (v.writes (Elt Ideal) f ((⟨Rect.unit off S.size inb, w⟩ : View.Piece (Elt Ideal) S e) :: L)) = w := by
  rw [View.readAt_writes_of_cover, View.readCov_cons_unit_lit' v inb inb' w L h h']
  intro j
  refine ⟨_, List.mem_cons_self, ?_⟩
  obtain rfl : off = fun _ => 0 := funext h
  show _ ∈ (Rect.whole S).set
  rw [Rect.set_whole]
  exact Finset.mem_univ _

/-- A tile of keys, read out of the block of keys. -/
theorem keyTile (arg6 : Memref sig .tc .vmem S1x8192x128 .fp8e4m3) (harg6 : arg6.IsWhole) (K : FVec Ideal S1x8192x128 .fp8e4m3)
    (hi : ℕ) (h : hi + 128 ≤ 8192) (off : Fin 3 → ℕ) (hoff : off = ![0, hi, 0])
    (inb : ∀ a, off a + S1x128x128.size a ≤ S1x8192x128.size a) (a e : Fin 128) :
    View.readAt (Elt Ideal) arg6.view (Rect.unit (s := S1x8192x128) off S1x128x128.size inb).toLoadRect (harg6.unread K) (ix3 0 a e)
      = K (ix3 0 (Tiles.tileKey hi h a) e) := by
  subst hoff
  rw [View.readAt_eq_ld, harg6.read_unread]
  pointwise []
  rfl

/-- A tile of values, read out of the block of values. -/
theorem valueTile (arg7 : Memref sig .tc .vmem S1x128x8192 .fp8e4m3) (harg7 : arg7.IsWhole) (V : FVec Ideal S1x128x8192 .fp8e4m3)
    (hi : ℕ) (h : hi + 128 ≤ 8192) (off : Fin 3 → ℕ) (hoff : off = ![0, 0, hi])
    (inb : ∀ a, off a + S1x128x128.size a ≤ S1x128x8192.size a) (d a : Fin 128) :
    View.readAt (Elt Ideal) arg7.view (Rect.unit (s := S1x128x8192) off S1x128x128.size inb).toLoadRect (harg7.unread V) (ix3 0 d a)
      = V (ix3 0 d (Tiles.tileKey hi h a)) := by
  subst hoff
  rw [View.readAt_eq_ld, harg7.read_unread]
  pointwise []
  rfl

section Loops

variable (c : Dev nD) (i : grid0.Coords)
  (arg2 : Memref sig .tc .vmem S1x128x1024 .fp8e4m3) (harg2 : arg2.IsWhole)
  (arg3 : Memref sig .tc .vmem S1x1024 .i32) (harg3 : arg3.IsWhole)
  (arg4 : Memref sig .tc .vmem S1x1024 .f32) (harg4 : arg4.IsWhole)
  (arg5 : Memref sig .tc .smem S1 .f32) (harg5 : arg5.IsWhole)
  (arg6 : Memref sig .tc .vmem S1x8192x128 .fp8e4m3) (harg6 : arg6.IsWhole)
  (arg7 : Memref sig .tc .vmem S1x128x8192 .fp8e4m3) (harg7 : arg7.IsWhole)
  (arg8 : Memref sig .tc .vmem S1x128x1024 .bf16) (harg8 : arg8.IsWhole)
  (arg9 : Memref sig .tc .vmem S8x1024 .f32) (harg9 : arg9.IsWhole)
  (arg10 : Memref sig .tc .vmem S8x1024 .f32) (harg10 : arg10.IsWhole)
  (arg11 : Memref sig .tc .vmem S128x1024 .f32) (harg11 : arg11.IsWhole)
  (w1 : BitVec 32) (q : FVec Ideal S1024x128 .fp8e4m3) (s μ : FVec Ideal S1x1024 .f32) (K : FVec Ideal S1x8192x128 .fp8e4m3)
  (V : FVec Ideal S1x128x8192 .fp8e4m3)

/-- After `m` trips of the first loop, row `r` of the running maxima is the largest score of the keys seen that are `r` modulo 8. -/
theorem maxima (G : BufTy.Contents (Elt Ideal) arg9.view.ty)
    (hG : ∀ r l, View.readAt (Elt Ideal) arg9.view (Rect.unit (s := S8x1024) ![0, 0] S8x1024.size inb_S8x1024_S8x1024_0_0).toLoadRect G (ix2 r l) = ⊥)
    (m : ℕ) (hm : m ≤ (k0_t1_loop i).trips) (r : Fin 8) (l : Fin 1024) :
    View.readAt (Elt Ideal) arg9.view (Rect.unit (s := S8x1024) ![0, 0] S8x1024.size inb_S8x1024_S8x1024_0_0).toLoadRect (arg9.view.writes (Elt Ideal) G (st_k0_t1 (F := Ideal) Variants.none c none i arg2 harg2 arg3 harg3 arg4 harg4 arg5 harg5 arg6 harg6 arg7 harg7 arg8 harg8 arg9 harg9 arg10 harg10 arg11 harg11 (BitVec.ofNat 32 (i 1).val) w1 (firstW (i 1).val) q s (iota Kind.tc S128x1024 32 [0] iota_S128x1024_d0_w32)
    128#32 k0_pay14 k0_pay15 (harg6.unread K) G 0#32 m).2) (ix2 r l)
      = (Tiles.keysMod (((i 1).val - 32) * 128) (((i 1).val - 32 + m) * 128) r.val).sup fun κ =>
          if vis ((i 1).val * 128 + l.val % 128) κ then score K q l κ else ⊥ := by
  induction m generalizing r l with
  | zero =>
    rw [Nat.add_zero, Tiles.keysMod_self, Finset.sup_empty]
    exact hG r l
  | succ m ih =>
    have hm' : m < (k0_t1_loop i).trips := hm
    have hb := hm'
    have hi : (i 1).val < 64 := (i 1).isLt
    rw [trips1_eq] at hb
    have h : ((i 1).val - 32 + m) * 128 + 128 ≤ 8192 := by omega
    have hs := st_k0_t1_succ (F := Ideal) Variants.none c none i arg2 harg2 arg3 harg3 arg4 harg4 arg5 harg5 arg6 harg6 arg7 harg7 arg8 harg8 arg9 harg9 arg10 harg10 arg11 harg11 (BitVec.ofNat 32 (i 1).val) w1 (firstW (i 1).val) q s (iota Kind.tc S128x1024 32 [0] iota_S128x1024_d0_w32)
      128#32 k0_pay14 k0_pay15 (harg6.unread K) G 0#32 ⟨m, hm'⟩
    rw [show m + 1 = (⟨m, hm'⟩ : Fin (k0_t1_loop i).trips).val + 1 from rfl, hs]
    clear hs
    unfold tripL_k0_t1
    unfold trip_k0_t1
    dsimp only
    rw [List.singleton_append, read_after_store _ _ _ _ _ _ (by decide) (by decide),
      pay18_at i (i 1) q K _ ⟨m, hm'⟩ (by show m ≤ _; omega) h (fun a e => keyTile arg6 harg6 K _ h _ (off1_eq i ⟨m, hm'⟩) _ a e),
      ih (by omega) r l, ← Tiles.sup_keysMod_succ _ _ (by omega) (by omega) h]
    congr 2
    omega

/-- After `m` trips of the second loop, row `r` of the running sums is the sum of the weights of the keys seen that are `r` modulo 8,
    and the running products are the sums over the keys seen of value times clipped weight. -/
theorem sums (G : BufTy.Contents (Elt Ideal) arg10.view.ty) (H : BufTy.Contents (Elt Ideal) arg11.view.ty)
    (hG : ∀ r l, View.readAt (Elt Ideal) arg10.view (Rect.unit (s := S8x1024) ![0, 0] S8x1024.size inb_S8x1024_S8x1024_0_0).toLoadRect G (ix2 r l) = 0)
    (hH : ∀ d l, View.readAt (Elt Ideal) arg11.view (Rect.unit (s := S128x1024) ![0, 0] S128x1024.size inb_S128x1024_S128x1024_0_0).toLoadRect H (ix2 d l) = 0)
    (m : ℕ) (hm : m ≤ (k0_t3_loop i).trips) :
    (∀ (r : Fin 8) (l : Fin 1024), View.readAt (Elt Ideal) arg10.view (Rect.unit (s := S8x1024) ![0, 0] S8x1024.size inb_S8x1024_S8x1024_0_0).toLoadRect (arg10.view.writes (Elt Ideal) G (st_k0_t3 (F := Ideal) Variants.none c none i arg2 harg2 arg3 harg3 arg4 harg4 arg5 harg5 arg6 harg6 arg7 harg7 arg8 harg8 arg9 harg9 arg10 harg10 arg11 harg11 (BitVec.ofNat 32 (i 1).val) w1 (firstW (i 1).val) q s (iota Kind.tc S128x1024 32 [0] iota_S128x1024_d0_w32)
    (k0_pay16 128#32 k0_pay14 k0_pay15) μ 0#32 0#32 (harg6.unread K) (harg7.unread V) G H 0#32 m).2.1) (ix2 r l)
      = ∑ κ ∈ Tiles.keysMod (((i 1).val - 32) * 128) (((i 1).val - 32 + m) * 128) r.val,
          weight (i 1) q K l (s (ix2 0 l)) (μ (ix2 0 l)) κ)
    ∧ (∀ (d : Fin 128) (l : Fin 1024), View.readAt (Elt Ideal) arg11.view (Rect.unit (s := S128x1024) ![0, 0] S128x1024.size inb_S128x1024_S128x1024_0_0).toLoadRect (arg11.view.writes (Elt Ideal) H (st_k0_t3 (F := Ideal) Variants.none c none i arg2 harg2 arg3 harg3 arg4 harg4 arg5 harg5 arg6 harg6 arg7 harg7 arg8 harg8 arg9 harg9 arg10 harg10 arg11 harg11 (BitVec.ofNat 32 (i 1).val) w1 (firstW (i 1).val) q s (iota Kind.tc S128x1024 32 [0] iota_S128x1024_d0_w32)
    (k0_pay16 128#32 k0_pay14 k0_pay15) μ 0#32 0#32 (harg6.unread K) (harg7.unread V) G H 0#32 m).2.2) (ix2 d l)
      = ∑ κ ∈ Tiles.keys (((i 1).val - 32) * 128) (((i 1).val - 32 + m) * 128),
          V (ix3 0 d κ) * clip (weight (i 1) q K l (s (ix2 0 l)) (μ (ix2 0 l)) κ)) := by
  induction m with
  | zero =>
    constructor
    · intro r l
      rw [Nat.add_zero, Tiles.keysMod_self, Finset.sum_empty]
      exact hG r l
    · intro d l
      rw [Nat.add_zero, Tiles.keys_self, Finset.sum_empty]
      exact hH d l
  | succ m ih =>
    have hm' : m < (k0_t3_loop i).trips := hm
    have hb := hm'
    have hi : (i 1).val < 64 := (i 1).isLt
    rw [trips3_eq] at hb
    have h : ((i 1).val - 32 + m) * 128 + 128 ≤ 8192 := by omega
    have e : ((i 1).val - 32 + (m + 1)) * 128 = ((i 1).val - 32 + m) * 128 + 128 := by omega
    obtain ⟨ih1, ih2⟩ := ih (by omega)
    have hs := st_k0_t3_succ (F := Ideal) Variants.none c none i arg2 harg2 arg3 harg3 arg4 harg4 arg5 harg5 arg6 harg6 arg7 harg7 arg8 harg8 arg9 harg9 arg10 harg10 arg11 harg11 (BitVec.ofNat 32 (i 1).val) w1 (firstW (i 1).val) q s (iota Kind.tc S128x1024 32 [0] iota_S128x1024_d0_w32)
      (k0_pay16 128#32 k0_pay14 k0_pay15) μ 0#32 0#32 (harg6.unread K) (harg7.unread V) G H 0#32 ⟨m, hm'⟩
    rw [e, show m + 1 = (⟨m, hm'⟩ : Fin (k0_t3_loop i).trips).val + 1 from rfl, hs]
    clear hs
    unfold tripL_k0_t3
    unfold trip_k0_t3
    dsimp only
    constructor
    · intro r l
      rw [List.singleton_append, read_after_store _ _ _ _ _ _ (by decide) (by decide)]
      refine (pay7_at i (i 1) q s K _ ⟨m, hm'⟩ (by show m ≤ _; omega) h (fun a e => keyTile arg6 harg6 K _ h _ (off3_eq i ⟨m, hm'⟩) _ a e) μ _ r l).trans ?_
      rw [ih1 r l, Tiles.sum_keysMod_succ _ _ (by omega) (by omega) h]
    · intro d l
      rw [List.singleton_append, read_after_store _ _ _ _ _ _ (by decide) (by decide), pay23_at, ih2 d l,
        Tiles.sum_keys_succ _ _ (by omega) h]
      congr 1
      refine Finset.sum_congr rfl fun a _ => ?_
      exact congrArg₂ (· * ·) (valueTile arg7 harg7 V _ h _ (off4_eq i ⟨m, hm'⟩) _ d a)
        (pay8_at i (i 1) q s K _ ⟨m, hm'⟩ (by show m ≤ _; omega) h (fun a e => keyTile arg6 harg6 K _ h _ (off3_eq i ⟨m, hm'⟩) _ a e) μ a l)

end Loops

end Cert.KernelIdeal.Block

end
-- ==== Proof.Heads.lean ====
/-
  The eight heads of a block: the rows of the queries they are taken from, and the columns of the result they make (hand-written, untrusted).
-/
module

public import proofs.«01_k».proof.Proof.Payloads

@[expose] public section

set_option maxRecDepth 16384

noncomputable section

namespace Cert.KernelIdeal.Block

open Idealize.ShloMosaic Idealize.ShloMosaic.TcCoe Idealize.SL.Sem
open Cert.KernelIdeal.Gen Cert.Softmax

/-! ## The eight heads -/

/-- Row `t` of head `h` is column `h * 128 + t` of the transposed block. -/
abbrev col (h : Fin 8) (t : Fin 128) : Fin 1024 := ⟨h.val * 128 + t.val, by omega⟩

theorem select_plus (w : BitVec 32) (h : w = 0#32) (a b : EReal) : Scalar.select (IntOp.cmpi CmpIPredicate.ne w 0#32) a b = b := by
  subst h; rfl

theorem entry_congr (x : FVec Ideal S1x128x1024 .fp8e4m3) {t t' : Fin 128} {e e' : Fin 1024} (ht : t.val = t'.val)
    (he : e.val = e'.val) : x (ix3 0 t e) = x (ix3 0 t' e') := by
  rw [Fin.ext ht, Fin.ext he]

section Rows

variable (sg : IVec S1x1024 32) (hsg : ∀ j, sg (ix2 0 j) = 0#32) (x : FVec Ideal S1x128x1024 .fp8e4m3) (t e : Fin 128)

include hsg in
set_option maxHeartbeats 1000000 in
theorem pay12_at0 : k0_pay12 (F := Ideal) sg x x (ix2 (col 0 t) e) = x (ix3 0 t (col 0 e)) := by
  pointwise [k0_pay12]
  rw [select_plus _ (hsg _)]
  exact entry_congr x (by first | omega | (simp; omega) | simp) (by simp)

include hsg in
set_option maxHeartbeats 1000000 in
theorem pay12_at1 : k0_pay12 (F := Ideal) sg x x (ix2 (col 1 t) e) = x (ix3 0 t (col 1 e)) := by
  pointwise [k0_pay12]
  rw [select_plus _ (hsg _)]
  exact entry_congr x (by first | omega | (simp; omega) | simp) (by simp)

include hsg in
set_option maxHeartbeats 1000000 in
theorem pay12_at2 : k0_pay12 (F := Ideal) sg x x (ix2 (col 2 t) e) = x (ix3 0 t (col 2 e)) := by
  pointwise [k0_pay12]
  rw [dif_neg (by omega), dif_neg (by omega), dif_pos (by omega), select_plus _ (hsg _)]
  exact entry_congr x (by first | omega | (simp; omega) | simp) (by simp)

include hsg in
set_option maxHeartbeats 1000000 in
theorem pay12_at3 : k0_pay12 (F := Ideal) sg x x (ix2 (col 3 t) e) = x (ix3 0 t (col 3 e)) := by
  pointwise [k0_pay12]
  rw [dif_neg (by omega), dif_neg (by omega), dif_neg (by omega), dif_pos (by omega), select_plus _ (hsg _)]
  exact entry_congr x (by first | omega | (simp; omega) | simp) (by simp)

include hsg in
set_option maxHeartbeats 1000000 in
theorem pay12_at4 : k0_pay12 (F := Ideal) sg x x (ix2 (col 4 t) e) = x (ix3 0 t (col 4 e)) := by
  pointwise [k0_pay12]
  rw [dif_neg (by omega), dif_neg (by omega), dif_neg (by omega), dif_neg (by omega), dif_pos (by omega), select_plus _ (hsg _)]
  exact entry_congr x (by first | omega | (simp; omega) | simp) (by simp)

include hsg in
set_option maxHeartbeats 1000000 in
theorem pay12_at5 : k0_pay12 (F := Ideal) sg x x (ix2 (col 5 t) e) = x (ix3 0 t (col 5 e)) := by
  pointwise [k0_pay12]
  rw [dif_neg (by omega), dif_neg (by omega), dif_neg (by omega), dif_neg (by omega), dif_neg (by omega), dif_pos (by omega), select_plus _ (hsg _)]
  exact entry_congr x (by first | omega | (simp; omega) | simp) (by simp)

include hsg in
set_option maxHeartbeats 1000000 in
theorem pay12_at6 : k0_pay12 (F := Ideal) sg x x (ix2 (col 6 t) e) = x (ix3 0 t (col 6 e)) := by
  pointwise [k0_pay12]
  rw [dif_neg (by omega), dif_neg (by omega), dif_neg (by omega), dif_neg (by omega), dif_neg (by omega), dif_neg (by omega), dif_pos (by omega), select_plus _ (hsg _)]
  exact entry_congr x (by first | omega | (simp; omega) | simp) (by simp)

include hsg in
set_option maxHeartbeats 1000000 in
theorem pay12_at7 : k0_pay12 (F := Ideal) sg x x (ix2 (col 7 t) e) = x (ix3 0 t (col 7 e)) := by
  pointwise [k0_pay12]
  rw [dif_neg (by omega), dif_neg (by omega), dif_neg (by omega), dif_neg (by omega), dif_neg (by omega), dif_neg (by omega), dif_neg (by omega), select_plus _ (hsg _)]
  exact entry_congr x (by first | omega | (simp; omega) | simp) (by simp)

end Rows

/-- The rows the scores are computed from, where every sign is plus. -/
theorem pay12_at (sg : IVec S1x1024 32) (hsg : ∀ j, sg (ix2 0 j) = 0#32) (x : FVec Ideal S1x128x1024 .fp8e4m3)
    (h : Fin 8) (t e : Fin 128) :
    k0_pay12 (F := Ideal) sg x x (ix2 (col h t) e) = x (ix3 0 t (col h e)) := by
  obtain ⟨h, hh⟩ := h
  match h, hh with
  | 0, _ => exact pay12_at0 sg hsg x t e
  | 1, _ => exact pay12_at1 sg hsg x t e
  | 2, _ => exact pay12_at2 sg hsg x t e
  | 3, _ => exact pay12_at3 sg hsg x t e
  | 4, _ => exact pay12_at4 sg hsg x t e
  | 5, _ => exact pay12_at5 sg hsg x t e
  | 6, _ => exact pay12_at6 sg hsg x t e
  | 7, _ => exact pay12_at7 sg hsg x t e

section Out

variable (L : FVec Ideal S8x1024 .f32) (A : FVec Ideal S128x1024 .f32) (vs : EReal) (t d : Fin 128)

/-- A quotient of the running products and the running sums. -/
abbrev quot (l : Fin 1024) : EReal := Ideal.div (A (ix2 d l) * vs) (∑ r : Fin 8, L (ix2 r l))

theorem pay25_at (l : Fin 1024) : k0_pay25 (F := Ideal) L A vs (ix2 d l) = quot L A vs d l := by
  pointwise [k0_pay25]

theorem quot_congr {l l' : Fin 1024} (h : l.val = l'.val) : quot L A vs d l = quot L A vs d l' := by rw [Fin.ext h]

theorem out_at0 : k0_pay26 (F := Ideal) L A vs (ix3 0 t d) = quot L A vs d (col 0 t) := by
  pointwise [k0_pay26, pay25_at]
  exact quot_congr L A vs d (by simp)

theorem out_at1 : k0_pay27 (F := Ideal) L A vs (ix3 0 t d) = quot L A vs d (col 1 t) := by
  pointwise [k0_pay27, pay25_at]
  exact quot_congr L A vs d (by simp)

theorem out_at2 : k0_pay28 (F := Ideal) L A vs (ix3 0 t d) = quot L A vs d (col 2 t) := by
  pointwise [k0_pay28, pay25_at]
  exact quot_congr L A vs d (by simp)

theorem out_at3 : k0_pay1 (F := Ideal) (k0_pay29 (F := Ideal) L A vs) (ix3 0 t d) = quot L A vs d (col 3 t) := by
  pointwise [k0_pay1, k0_pay29, pay25_at]
  exact quot_congr L A vs d (by simp)

theorem out_at4 : k0_pay2 (F := Ideal) (k0_pay25 (F := Ideal) L A vs) (ix3 0 t d) = quot L A vs d (col 4 t) := by
  pointwise [k0_pay2, pay25_at]
  exact quot_congr L A vs d (by simp)

theorem out_at5 : k0_pay3 (F := Ideal) (k0_pay25 (F := Ideal) L A vs) (ix3 0 t d) = quot L A vs d (col 5 t) := by
  pointwise [k0_pay3, pay25_at]
  exact quot_congr L A vs d (by simp)

theorem out_at6 : k0_pay4 (F := Ideal) (k0_pay25 (F := Ideal) L A vs) (ix3 0 t d) = quot L A vs d (col 6 t) := by
  pointwise [k0_pay4, pay25_at]
  exact quot_congr L A vs d (by simp)

theorem out_at7 : k0_pay5 (F := Ideal) (k0_pay25 (F := Ideal) L A vs) (ix3 0 t d) = quot L A vs d (col 7 t) := by
  pointwise [k0_pay5, pay25_at]
  exact quot_congr L A vs d (by simp)

end Out

end Cert.KernelIdeal.Block

end
-- ==== Proof.Block.lean ====
/-
  What a grid point of the kernel writes: one tile of queries, eight heads, each a quotient of the running products by the running sums
  (hand-written, untrusted).
-/
module

public import proofs.«01_k».proof.Proof.Trips
public import proofs.«01_k».proof.Proof.Heads
public import Idealize.ShloMosaic.Lib.LoopRemainder

@[expose] public section

set_option maxRecDepth 16384

noncomputable section

namespace Cert.KernelIdeal.Block

open Idealize.ShloMosaic Idealize.ShloMosaic.TcCoe Idealize.SL.Sem
open Cert.KernelIdeal.Gen Cert.Softmax

section Block

variable (c : Dev nD) (i : grid0.Coords)
  (arg2 : Memref sig .tc .vmem S1x128x1024 .fp8e4m3) (harg2 : arg2.IsWhole)
  (arg3 : Memref sig .tc .vmem S1x1024 .i32) (harg3 : arg3.IsWhole)
  (arg4 : Memref sig .tc .vmem S1x1024 .f32) (harg4 : arg4.IsWhole)
  (arg5 : Memref sig .tc .smem S1 .f32) (harg5 : arg5.IsWhole)
  (arg6 : Memref sig .tc .vmem S1x8192x128 .fp8e4m3) (harg6 : arg6.IsWhole)
  (arg7 : Memref sig .tc .vmem S1x128x8192 .fp8e4m3) (harg7 : arg7.IsWhole)
  (arg8 : Memref sig .tc .vmem S1x128x1024 .bf16) (harg8 : arg8.IsWhole)
  (arg9 : Memref sig .tc .vmem S8x1024 .f32) (harg9 : arg9.IsWhole)
  (arg10 : Memref sig .tc .vmem S8x1024 .f32) (harg10 : arg10.IsWhole)
  (arg11 : Memref sig .tc .vmem S128x1024 .f32) (harg11 : arg11.IsWhole)
  (x0 : FVec Ideal S1x128x1024 .fp8e4m3) (x1 : IVec S1x1024 32) (x2 : FVec Ideal S1x1024 .f32) (x3 : FVec Ideal S1 .f32)
  (x4 : FVec Ideal S1x8192x128 .fp8e4m3) (x5 : FVec Ideal S1x128x8192 .fp8e4m3)

theorem hi_eq : ((i 1).val - 32 + min ((i 1).val + 1) 33) * 128 = ((i 1).val + 1) * 128 := by omega

/-- The maxima the first loop and its remainder leave. -/
theorem v59_at (r : Fin 8) (l : Fin 1024) :
    kernelRun0_A.sl.v59 (F := Ideal) c i arg2 harg2 arg3 harg3 arg4 harg4 arg5 harg5 arg6 harg6 arg7 harg7 arg8 harg8 arg9 harg9 arg10 harg10 arg11 harg11 x0 x1 x2 x4 (ix2 r l)
      = (Tiles.keysMod (((i 1).val - 32) * 128) (((i 1).val + 1) * 128) r.val).sup fun κ =>
          if vis ((i 1).val * 128 + l.val % 128) κ then score x4 (kernelRun0_A.sl.r (F := Ideal) c arg2 harg2 arg3 harg3 x0 x1) l κ else ⊥ := by
  unfold kernelRun0_A.sl.v59
  have h2 : Scf.trips (k0_t2_loop i).lb (k0_t2_loop i).ub (k0_t2_loop i).st = 0 := Scf.rem_trips _ _
  have ht : Scf.trips (k0_t1_loop i).lb (k0_t1_loop i).ub (k0_t1_loop i).st = (k0_t1_loop i).trips := rfl
  have e3 : kernelRun0_A.sl.v3 i = firstW (i 1).val := rfl
  have e30 : kernelRun0_A.sl.v30 = (iota Kind.tc S128x1024 32 [0] iota_S128x1024_d0_w32) := rfl
  rw [h2]
  unfold View.readCov
  rw [View.writes_append, View.writes_append]
  have e := maxima c i arg2 harg2 arg3 harg3 arg4 harg4 arg5 harg5 arg6 harg6 arg7 harg7 arg8 harg8 arg9 harg9 arg10 harg10 arg11 harg11 (kernelRun0_A.sl.v1 i) (kernelRun0_A.sl.r (F := Ideal) c arg2 harg2 arg3 harg3 x0 x1) (kernelRun0_A.sl.r_1 (F := Ideal) c arg4 harg4 x2) x4
    (arg9.view.writes (Elt Ideal) arg9.view.junk (kernelRun0_A.sl.HS0_1 (F := Ideal)))
    (fun r l => (congrFun (read_after_store arg9.view _ _ _ _ _ (by decide) (by decide)) (ix2 r l)).trans (pay17_at r l))
    (k0_t1_loop i).trips le_rfl r l
  rw [e3, e30, ht, st_k0_t2.eq_1]
  dsimp only
  rw [View.writes_nil]
  refine e.trans ?_
  rw [trips1_eq i, hi_eq]

/-- The weight of a key in terms of the shift the maxima give. -/
theorem shift_at (l : Fin 1024) :
    (kernelRun0_A.sl.r_3 (F := Ideal) c i arg2 harg2 arg3 harg3 arg4 harg4 arg5 harg5 arg6 harg6 arg7 harg7 arg8 harg8 arg9 harg9 arg10 harg10 arg11 harg11 x0 x1 x2 x4) (ix2 0 l)
      = ((Tiles.keys (((i 1).val - 32) * 128) (((i 1).val + 1) * 128)).sup fun κ =>
          if vis ((i 1).val * 128 + l.val % 128) κ then score x4 (kernelRun0_A.sl.r (F := Ideal) c arg2 harg2 arg3 harg3 x0 x1) l κ else ⊥) * (kernelRun0_A.sl.r_1 (F := Ideal) c arg4 harg4 x2) (ix2 0 l) - ((8 : ℝ) : EReal) := by
  unfold kernelRun0_A.sl.r_3
  rw [pay20_at, ← Tiles.sup_rows]
  congr 3
  funext r
  exact v59_at c i arg2 harg2 arg3 harg3 arg4 harg4 arg5 harg5 arg6 harg6 arg7 harg7 arg8 harg8 arg9 harg9 arg10 harg10 arg11 harg11 x0 x1 x2 x4 r l

/-- The sums the second loop and its remainder leave. -/
theorem v80_at (r : Fin 8) (l : Fin 1024) :
    kernelRun0_A.sl.v80 (F := Ideal) c i arg2 harg2 arg3 harg3 arg4 harg4 arg5 harg5 arg6 harg6 arg7 harg7 arg8 harg8 arg9 harg9 arg10 harg10 arg11 harg11 x0 x1 x2 x4 x5 (ix2 r l)
      = ∑ κ ∈ Tiles.keysMod (((i 1).val - 32) * 128) (((i 1).val + 1) * 128) r.val,
          weight (i 1) (kernelRun0_A.sl.r (F := Ideal) c arg2 harg2 arg3 harg3 x0 x1) x4 l ((kernelRun0_A.sl.r_1 (F := Ideal) c arg4 harg4 x2) (ix2 0 l)) ((kernelRun0_A.sl.r_3 (F := Ideal) c i arg2 harg2 arg3 harg3 arg4 harg4 arg5 harg5 arg6 harg6 arg7 harg7 arg8 harg8 arg9 harg9 arg10 harg10 arg11 harg11 x0 x1 x2 x4) (ix2 0 l)) κ := by
  unfold kernelRun0_A.sl.v80
  have h4 : Scf.trips (k0_t4_loop i).lb (k0_t4_loop i).ub (k0_t4_loop i).st = 0 := Scf.rem_trips _ _
  have ht : Scf.trips (k0_t3_loop i).lb (k0_t3_loop i).ub (k0_t3_loop i).st = (k0_t3_loop i).trips := rfl
  have e3 : kernelRun0_A.sl.v3 i = firstW (i 1).val := rfl
  have e30 : kernelRun0_A.sl.v30 = (iota Kind.tc S128x1024 32 [0] iota_S128x1024_d0_w32) := rfl
  have e2 : kernelRun0_A.sl.r_2 = k0_pay16 128#32 k0_pay14 k0_pay15 := rfl
  have hG : ∀ (r : Fin 8) (l : Fin 1024), View.readAt (Elt Ideal) arg10.view (Rect.unit (s := S8x1024) ![0, 0] S8x1024.size inb_S8x1024_S8x1024_0_0).toLoadRect (arg10.view.writes (Elt Ideal) arg10.view.junk (kernelRun0_A.sl.HS1_1 (F := Ideal))) (ix2 r l) = 0 :=
    fun r l => (congrFun (read_after_store arg10.view _ _ _ _ _ (by decide) (by decide)) (ix2 r l)).trans (pay21_at r l)
  have hH : ∀ (d : Fin 128) (l : Fin 1024), View.readAt (Elt Ideal) arg11.view (Rect.unit (s := S128x1024) ![0, 0] S128x1024.size inb_S128x1024_S128x1024_0_0).toLoadRect (arg11.view.writes (Elt Ideal) arg11.view.junk (kernelRun0_A.sl.HS2_1 (F := Ideal))) (ix2 d l) = 0 :=
    fun d l => (congrFun (read_after_store arg11.view _ _ _ _ _ (by decide) (by decide)) (ix2 d l)).trans (pay22_at d l)
  have e := sums c i arg2 harg2 arg3 harg3 arg4 harg4 arg5 harg5 arg6 harg6 arg7 harg7 arg8 harg8 arg9 harg9 arg10 harg10 arg11 harg11 (kernelRun0_A.sl.v1 i) (kernelRun0_A.sl.r (F := Ideal) c arg2 harg2 arg3 harg3 x0 x1) (kernelRun0_A.sl.r_1 (F := Ideal) c arg4 harg4 x2)
    (kernelRun0_A.sl.r_3 (F := Ideal) c i arg2 harg2 arg3 harg3 arg4 harg4 arg5 harg5 arg6 harg6 arg7 harg7 arg8 harg8 arg9 harg9 arg10 harg10 arg11 harg11 x0 x1 x2 x4) x4 x5 _ _ hG hH (k0_t3_loop i).trips le_rfl
  rw [h4]
  unfold View.readCov
  rw [View.writes_append, View.writes_append, e3, e30, e2, ht, st_k0_t4.eq_1]
  dsimp only
  rw [View.writes_nil]
  refine (e.1 r l).trans ?_
  rw [trips3_eq i, hi_eq]

/-- The products the second loop and its remainder leave. -/
theorem v83_at (d : Fin 128) (l : Fin 1024) :
    kernelRun0_A.sl.v83 (F := Ideal) c i arg2 harg2 arg3 harg3 arg4 harg4 arg5 harg5 arg6 harg6 arg7 harg7 arg8 harg8 arg9 harg9 arg10 harg10 arg11 harg11 x0 x1 x2 x4 x5 (ix2 d l)
      = ∑ κ ∈ Tiles.keys (((i 1).val - 32) * 128) (((i 1).val + 1) * 128),
          x5 (ix3 0 d κ) * clip (weight (i 1) (kernelRun0_A.sl.r (F := Ideal) c arg2 harg2 arg3 harg3 x0 x1) x4 l ((kernelRun0_A.sl.r_1 (F := Ideal) c arg4 harg4 x2) (ix2 0 l)) ((kernelRun0_A.sl.r_3 (F := Ideal) c i arg2 harg2 arg3 harg3 arg4 harg4 arg5 harg5 arg6 harg6 arg7 harg7 arg8 harg8 arg9 harg9 arg10 harg10 arg11 harg11 x0 x1 x2 x4) (ix2 0 l)) κ) := by
  unfold kernelRun0_A.sl.v83
  have h4 : Scf.trips (k0_t4_loop i).lb (k0_t4_loop i).ub (k0_t4_loop i).st = 0 := Scf.rem_trips _ _
  have ht : Scf.trips (k0_t3_loop i).lb (k0_t3_loop i).ub (k0_t3_loop i).st = (k0_t3_loop i).trips := rfl
  have e3 : kernelRun0_A.sl.v3 i = firstW (i 1).val := rfl
  have e30 : kernelRun0_A.sl.v30 = (iota Kind.tc S128x1024 32 [0] iota_S128x1024_d0_w32) := rfl
  have e2 : kernelRun0_A.sl.r_2 = k0_pay16 128#32 k0_pay14 k0_pay15 := rfl
  have hG : ∀ (r : Fin 8) (l : Fin 1024), View.readAt (Elt Ideal) arg10.view (Rect.unit (s := S8x1024) ![0, 0] S8x1024.size inb_S8x1024_S8x1024_0_0).toLoadRect (arg10.view.writes (Elt Ideal) arg10.view.junk (kernelRun0_A.sl.HS1_1 (F := Ideal))) (ix2 r l) = 0 :=
    fun r l => (congrFun (read_after_store arg10.view _ _ _ _ _ (by decide) (by decide)) (ix2 r l)).trans (pay21_at r l)
  have hH : ∀ (d : Fin 128) (l : Fin 1024), View.readAt (Elt Ideal) arg11.view (Rect.unit (s := S128x1024) ![0, 0] S128x1024.size inb_S128x1024_S128x1024_0_0).toLoadRect (arg11.view.writes (Elt Ideal) arg11.view.junk (kernelRun0_A.sl.HS2_1 (F := Ideal))) (ix2 d l) = 0 :=
    fun d l => (congrFun (read_after_store arg11.view _ _ _ _ _ (by decide) (by decide)) (ix2 d l)).trans (pay22_at d l)
  have e := sums c i arg2 harg2 arg3 harg3 arg4 harg4 arg5 harg5 arg6 harg6 arg7 harg7 arg8 harg8 arg9 harg9 arg10 harg10 arg11 harg11 (kernelRun0_A.sl.v1 i) (kernelRun0_A.sl.r (F := Ideal) c arg2 harg2 arg3 harg3 x0 x1) (kernelRun0_A.sl.r_1 (F := Ideal) c arg4 harg4 x2)
    (kernelRun0_A.sl.r_3 (F := Ideal) c i arg2 harg2 arg3 harg3 arg4 harg4 arg5 harg5 arg6 harg6 arg7 harg7 arg8 harg8 arg9 harg9 arg10 harg10 arg11 harg11 x0 x1 x2 x4) x4 x5 _ _ hG hH (k0_t3_loop i).trips le_rfl
  rw [h4]
  unfold View.readCov
  rw [View.writes_append, View.writes_append, e3, e30, e2, ht, st_k0_t4.eq_1]
  dsimp only
  rw [View.writes_nil]
  refine (e.2 d l).trans ?_
  rw [trips3_eq i, hi_eq]

end Block

end Cert.KernelIdeal.Block

end
-- ==== Proof.Output.lean ====
/-
  What a grid point of the kernel writes, entry by entry (hand-written, untrusted).
-/
module

public import proofs.«01_k».proof.Proof.Block

@[expose] public section

set_option maxRecDepth 16384

noncomputable section

namespace Cert.KernelIdeal.Block

open Idealize.ShloMosaic Idealize.ShloMosaic.TcCoe Idealize.SL.Sem
open Cert.KernelIdeal.Gen Cert.Softmax

theorem idx_eq (x : S1x128x128.Idx) (t d : Fin 128) (h1 : (x 1).val = t.val) (h2 : (x 2).val = d.val) : x = ix3 0 t d := by
  funext a
  match a with
  | 0 => exact Fin.ext (by have := (x 0).isLt; show (x 0).val = 0; exact Nat.lt_one_iff.mp this)
  | 1 => exact Fin.ext h1
  | 2 => exact Fin.ext h2

section Out

variable (c : Dev nD) (i : grid0.Coords)
  (arg2 : Memref sig .tc .vmem S1x128x1024 .fp8e4m3) (harg2 : arg2.IsWhole)
  (arg3 : Memref sig .tc .vmem S1x1024 .i32) (harg3 : arg3.IsWhole)
  (arg4 : Memref sig .tc .vmem S1x1024 .f32) (harg4 : arg4.IsWhole)
  (arg5 : Memref sig .tc .smem S1 .f32) (harg5 : arg5.IsWhole)
  (arg6 : Memref sig .tc .vmem S1x8192x128 .fp8e4m3) (harg6 : arg6.IsWhole)
  (arg7 : Memref sig .tc .vmem S1x128x8192 .fp8e4m3) (harg7 : arg7.IsWhole)
  (arg8 : Memref sig .tc .vmem S1x128x1024 .bf16) (harg8 : arg8.IsWhole)
  (arg9 : Memref sig .tc .vmem S8x1024 .f32) (harg9 : arg9.IsWhole)
  (arg10 : Memref sig .tc .vmem S8x1024 .f32) (harg10 : arg10.IsWhole)
  (arg11 : Memref sig .tc .vmem S128x1024 .f32) (harg11 : arg11.IsWhole)
  (x0 : FVec Ideal S1x128x1024 .fp8e4m3) (x1 : IVec S1x1024 32) (x2 : FVec Ideal S1x1024 .f32) (x3 : FVec Ideal S1 .f32)
  (x4 : FVec Ideal S1x8192x128 .fp8e4m3) (x5 : FVec Ideal S1x128x8192 .fp8e4m3)

/-- A block as stored: head `h`, query `t`, component `d`. -/
theorem stored_at (h : Fin 8) (t d : Fin 128) :
    out0_A_6 (F := Ideal) c i arg2 harg2 arg3 harg3 arg4 harg4 arg5 harg5 arg6 harg6 arg7 harg7 arg8 harg8 arg9 harg9 arg10 harg10 arg11 harg11 x0 x1 x2 x3 x4 x5 (ix3 0 t (col h d))
      = quot (kernelRun0_A.sl.v80 (F := Ideal) c i arg2 harg2 arg3 harg3 arg4 harg4 arg5 harg5 arg6 harg6 arg7 harg7 arg8 harg8 arg9 harg9 arg10 harg10 arg11 harg11 x0 x1 x2 x4 x5) (kernelRun0_A.sl.v83 (F := Ideal) c i arg2 harg2 arg3 harg3 arg4 harg4 arg5 harg5 arg6 harg6 arg7 harg7 arg8 harg8 arg9 harg9 arg10 harg10 arg11 harg11 x0 x1 x2 x4 x5)
          (kernelRun0_A.sl.r_4 (F := Ideal) c arg5 harg5 x3) d (col h t) := by
  obtain ⟨y, hy⟩ : ∃ y : S1x128x1024.Idx, y = ix3 0 t (col h d) := ⟨_, rfl⟩
  have y1 : (y 1).val = t.val := by rw [hy]; rfl
  have y2 : (y 2).val = h.val * 128 + d.val := by rw [hy]; rfl
  rw [← hy]
  unfold out0_A_6
  rw [View.read_writes_eq_canon _ _ _ (cover0_A_6 (F := Ideal) c i arg2 harg2 arg3 harg3 arg4 harg4 arg5 harg5 arg6 harg6 arg7 harg7 arg8 harg8 arg9 harg9 arg10 harg10 arg11 harg11 x0 x1 x2 x3 x4 x5)]
  unfold kernelRun0_A
  dsimp only
  canon_tiles x k
  · obtain rfl : h = 7 := Fin.ext (by show h.val = 7; omega)
    obtain rfl : x = ix3 0 t d := idx_eq x t d (by omega) (by have e : (7 : Fin 8).val = 7 := rfl; omega)
    exact out_at7 _ _ _ t d
  · obtain rfl : h = 6 := Fin.ext (by show h.val = 6; omega)
    obtain rfl : x = ix3 0 t d := idx_eq x t d (by omega) (by have e : (6 : Fin 8).val = 6 := rfl; omega)
    exact out_at6 _ _ _ t d
  · obtain rfl : h = 5 := Fin.ext (by show h.val = 5; omega)
    obtain rfl : x = ix3 0 t d := idx_eq x t d (by omega) (by have e : (5 : Fin 8).val = 5 := rfl; omega)
    exact out_at5 _ _ _ t d
  · obtain rfl : h = 4 := Fin.ext (by show h.val = 4; omega)
    obtain rfl : x = ix3 0 t d := idx_eq x t d (by omega) (by have e : (4 : Fin 8).val = 4 := rfl; omega)
    exact out_at4 _ _ _ t d
  · obtain rfl : h = 3 := Fin.ext (by show h.val = 3; omega)
    obtain rfl : x = ix3 0 t d := idx_eq x t d (by omega) (by have e : (3 : Fin 8).val = 3 := rfl; omega)
    exact out_at3 _ _ _ t d
  · obtain rfl : h = 2 := Fin.ext (by show h.val = 2; omega)
    obtain rfl : x = ix3 0 t d := idx_eq x t d (by omega) (by have e : (2 : Fin 8).val = 2 := rfl; omega)
    exact out_at2 _ _ _ t d
  · obtain rfl : h = 1 := Fin.ext (by show h.val = 1; omega)
    obtain rfl : x = ix3 0 t d := idx_eq x t d (by omega) (by have e : (1 : Fin 8).val = 1 := rfl; omega)
    exact out_at1 _ _ _ t d
  · obtain rfl : h = 0 := Fin.ext (by show h.val = 0; omega)
    obtain rfl : x = ix3 0 t d := idx_eq x t d (by omega) (by have e : (0 : Fin 8).val = 0 := rfl; omega)
    exact out_at0 _ _ _ t d

/-- The rows the scores are taken from, where no scale is negative. -/
theorem rows_at (hsg : ∀ j, x1 (ix2 0 j) = 0#32) (h : Fin 8) (t e : Fin 128) :
    kernelRun0_A.sl.r (F := Ideal) c arg2 harg2 arg3 harg3 x0 x1 (ix2 (col h t) e) = x0 (ix3 0 t (col h e)) := by
  unfold kernelRun0_A.sl.r
  rw [View.readAt_eq_ld, View.readAt_eq_ld, harg2.read_unread, harg3.read_unread,
    View.ld_unit_lit' _ _ (by decide), View.ld_unit_lit' _ _ (by decide)]
  exact pay12_at x1 hsg x0 h t e

theorem scale_at (l : Fin 1024) : kernelRun0_A.sl.r_1 (F := Ideal) c arg4 harg4 x2 (ix2 0 l) = x2 (ix2 0 l) * log2e := by
  unfold kernelRun0_A.sl.r_1
  rw [View.readAt_eq_ld, harg4.read_unread, View.ld_unit_lit' _ _ (by decide)]
  exact pay13_at x2 l

theorem vscale_at : kernelRun0_A.sl.r_4 (F := Ideal) c arg5 harg5 x3 = x3 (ix1 0) := by
  unfold kernelRun0_A.sl.r_4
  rw [View.readAt_eq_ld, harg5.read_unread, View.ld_unit_lit' _ _ (by decide)]
  congr 1
  funext a
  match a with
  | 0 => rfl

/-- A block, where no scale is negative: head `h`, query `t`, component `d`. -/
theorem block_at (hsg : ∀ j, x1 (ix2 0 j) = 0#32) (h : Fin 8) (t d : Fin 128) (qs : EReal)
    (hq : x2 (ix2 0 (col h t)) = max qs (-qs)) :
    out0_A_6 (F := Ideal) c i arg2 harg2 arg3 harg3 arg4 harg4 arg5 harg5 arg6 harg6 arg7 harg7 arg8 harg8 arg9 harg9 arg10 harg10 arg11 harg11 x0 x1 x2 x3 x4 x5 (ix3 0 t (col h d))
      = kerOut (vis ((i 1).val * 128 + t.val)) (fun κ => ∑ e : Fin 128, x4 (ix3 0 κ e) * x0 (ix3 0 t (col h e)))
          (fun κ => x5 (ix3 0 d κ)) qs (x3 (ix1 0)) (Tiles.keys (((i 1).val - 32) * 128) (((i 1).val + 1) * 128)) := by
  have hs : ∀ κ, score x4 (kernelRun0_A.sl.r (F := Ideal) c arg2 harg2 arg3 harg3 x0 x1) (col h t) κ = ∑ e : Fin 128, x4 (ix3 0 κ e) * x0 (ix3 0 t (col h e)) := fun κ =>
    Finset.sum_congr rfl fun e _ => congrArg (x4 (ix3 0 κ e) * ·) (rows_at c arg2 harg2 arg3 harg3 x0 x1 hsg h t e)
  have ht : (col h t).val % 128 = t.val := by show (h.val * 128 + t.val) % 128 = t.val; omega
  have hw : ∀ (f μ : EReal) (κ : Fin 8192), weight (i 1) (kernelRun0_A.sl.r (F := Ideal) c arg2 harg2 arg3 harg3 x0 x1) x4 (col h t) f μ κ
      = Ideal.exp2 (if vis ((i 1).val * 128 + t.val) κ then (∑ e : Fin 128, x4 (ix3 0 κ e) * x0 (ix3 0 t (col h e))) * f - μ else ⊥) := by
    intro f μ κ
    unfold weight
    simp only [hs, ht]
  rw [stored_at]
  unfold quot
  simp only [v80_at, v83_at, Tiles.sum_rows, shift_at, scale_at, vscale_at, hw, hs, ht, hq]
  rfl

end Out

end Cert.KernelIdeal.Block

end
-- ==== Proof.Operands.lean ====
/-
  The arrays the kernel's host code prepares, read at coordinates (hand-written, untrusted).

  The score scale of head `h` is `q_scale[h] * k_scale[0] * c`, with `c` the constant of the host's last multiplication.
  Under the precondition it is not negative, so the sign words are all zero and the scale handed over is its own
  absolute value.
-/
module

public import proofs.«01_k».proof.Proof.Output
public import proofs.«01_k».proof.Pre_scales_nonnegative
public import Idealize.ShloMosaic.Lib.Pipeline.ValueKit
public import Idealize.ShloMosaic.Lib.ReduceAll

@[expose] public section

set_option maxRecDepth 16384

noncomputable section

namespace Cert.Pre_scales_nonnegative

/-- The shape conditions of the precondition's operations. -/
instance facts : Facts where
  shapeCasts_S1_S_ := by decide
  bcast_S_S8 := by decide
  reducesTo_S8_S_d0 := by decide
  h_S_ := by decide

end Cert.Pre_scales_nonnegative

namespace Cert.KernelIdeal.Block

open Idealize.ShloMosaic Idealize.ShloMosaic.TcCoe Idealize.SL.Sem
open Cert.KernelIdeal.Gen Cert.Softmax

/-- The score scale of head `h`. -/
def headScale (Q : FVec Ideal S8 .f32) (K : FVec Ideal S1 .f32) (h : Fin 8) : EReal :=
  Q (ix1 h) * K (ix1 0) * Ideal.ofBits .f32 0x3DB504F3#32

/-- The precondition, read at a head. -/
theorem headScale_nonneg (x : FVec Ideal S8x8192x1024 .fp8e4m3) (Q : FVec Ideal S8 .f32) (k v : FVec Ideal S8x8192x128 .fp8e4m3) (K w : FVec Ideal S1 .f32)
    (hp : Cert.Pre_scales_nonnegative.fn (F := Ideal) x Q k K v w = fun _ => 1#1) (h : Fin 8) : 0 ≤ headScale Q K h := by
  dsimp only [Cert.Pre_scales_nonnegative.fn] at hp
  have h1 := Host.reduce_andi_all _ _ _ _ _ (congrFun hp ix0) (ix1 h)
  revert h1
  pointwise [headScale]
  intro h1
  by_contra hn
  rw [decide_eq_false hn] at h1
  exact absurd h1 (by decide)

/-- A head whose scale is not negative has a zero sign word. -/
theorem sign_word (Q : FVec Ideal S8 .f32) (K : FVec Ideal S1 .f32) (h : Fin 8) (h0 : 0 ≤ headScale Q K h) :
    select (cmpf .olt (mulf (mulf Q (broadcastInDim S8 ![] bcast_S_S8 ((fun _ => K (ix1 0)) : FVec Ideal S_ .f32))) (broadcastInDim S8 ![] bcast_S_S8 (constant S_ .f32 0x3DB504F3#32)))
        (broadcastInDim S8 ![] bcast_S_S8 (constant S_ .f32 0x00000000#32)))
      (broadcastInDim S8 ![] bcast_S_S8 (constantI S_ 32 2155905152#32)) (broadcastInDim S8 ![] bcast_S_S8 (constantI S_ 32 0#32)) (ix1 h) = 0#32 := by
  pointwise []
  have h1 : ¬ Q (ix1 h) * K (ix1 0) * Ideal.ofBits .f32 0x3DB504F3#32 < 0 := not_lt.mpr h0
  simp [h1]

variable (m : (ℓ : Loc nD τ sig) → Buf (Elt Ideal) ℓ)

theorem scale_entry (c : Dev nD) (h : Fin 8) (t : Fin 128) :
    (V m c main_v8 : FVec Ideal S1x1024 .f32) (ix2 0 (col h t))
      = max (headScale (m ((c : Thread nD τ).loc main_arg1)) (m ((c : Thread nD τ).loc main_arg3)) h)
          (-(headScale (m ((c : Thread nD τ).loc main_arg1)) (m ((c : Thread nD τ).loc main_arg3)) h)) := by
  unfold V
  simp only [List.flatten_cons, List.flatten_nil, List.append_nil, List.cons_append, List.nil_append, hostOps0, hostOps0_1, hostOps0_2]
  entry_read
  pointwise [headScale]
  have e : (⟨(h.val * 128 + t.val) / 128, by omega⟩ : Fin 8) = h := Fin.ext (by show (h.val * 128 + t.val) / 128 = h.val; omega)
  rw [e]
  rfl

theorem sign_entry (c : Dev nD) (h : Fin 8) (t : Fin 128)
    (h0 : 0 ≤ headScale (m ((c : Thread nD τ).loc main_arg1)) (m ((c : Thread nD τ).loc main_arg3)) h) :
    (V m c main_v14 : IVec S1x1024 32) (ix2 0 (col h t)) = 0#32 := by
  unfold V
  simp only [List.flatten_cons, List.flatten_nil, List.append_nil, List.cons_append, List.nil_append, hostOps0, hostOps0_1, hostOps0_2]
  entry_read
  pointwise [headScale]
  have e : (⟨(h.val * 128 + t.val) / 128, by omega⟩ : Fin 8) = h := Fin.ext (by show (h.val * 128 + t.val) / 128 = h.val; omega)
  rw [e]
  refine (sign_word (m ((c : Thread nD τ).loc main_arg1)) (m ((c : Thread nD τ).loc main_arg3)) h ?_)
  exact h0

end Cert.KernelIdeal.Block

end
-- ==== Proof.KernelArray.lean ====
/-
  The kernel's result array: windowed attention, entry by entry (hand-written, untrusted).
-/
module

public import proofs.«01_k».proof.Proof.Operands
public import proofs.«01_k».proof.Proof.Gen.KernelIdeal.Value

@[expose] public section

set_option maxRecDepth 16384

noncomputable section

namespace Cert.KernelIdeal.Block

open Idealize.ShloMosaic Idealize.ShloMosaic.TcCoe Idealize.SL.Sem
open Idealize.ShloMosaic.Pipeline (Dat)
open Cert.KernelIdeal.Gen Cert.Softmax

/-- Entry `(b, t, h * 128 + d)` of windowed attention. -/
def attention (X : FVec Ideal S8x8192x1024 .fp8e4m3) (Q : FVec Ideal S8 .f32) (K : FVec Ideal S8x8192x128 .fp8e4m3) (KS : FVec Ideal S1 .f32)
    (W : FVec Ideal S8x8192x128 .fp8e4m3) (WS : FVec Ideal S1 .f32) (b : Fin 8) (t : Fin 8192) (h : Fin 8) (d : Fin 128) : EReal :=
  refOut (vis t.val) (fun κ => ∑ e : Fin 128, K (ix3 b κ e) * X (ix3 b t (col h e))) (fun κ => W (ix3 b κ d)) (headScale Q KS h) (WS (ix1 0))

/-- The head a column of the result belongs to. -/
abbrev headOf (j : Fin 1024) : Fin 8 := ⟨j.val / 128, by omega⟩
/-- The place of a column of the result in its head. -/
abbrev placeOf (j : Fin 1024) : Fin 128 := ⟨j.val % 128, by omega⟩

theorem col_eq (j : Fin 1024) : col (headOf j) (placeOf j) = j := Fin.ext (by show j.val / 128 * 128 + j.val % 128 = j.val; omega)

/-- Windowed attention, as an array. -/
def result (X : FVec Ideal S8x8192x1024 .fp8e4m3) (Q : FVec Ideal S8 .f32) (K : FVec Ideal S8x8192x128 .fp8e4m3) (KS : FVec Ideal S1 .f32)
    (W : FVec Ideal S8x8192x128 .fp8e4m3) (WS : FVec Ideal S1 .f32) : FVec Ideal S8x8192x1024 .bf16 :=
  fun i => attention X Q K KS W WS (i 0) (i 1) (headOf (i 2)) (placeOf (i 2))

theorem attention_kernel (X : FVec Ideal S8x8192x1024 .fp8e4m3) (Q : FVec Ideal S8 .f32) (K : FVec Ideal S8x8192x128 .fp8e4m3) (KS : FVec Ideal S1 .f32)
    (W : FVec Ideal S8x8192x128 .fp8e4m3) (WS : FVec Ideal S1 .f32) (b : Fin 8) (t : Fin 8192) (h : Fin 8) (d : Fin 128)
    (h0 : 0 ≤ headScale Q KS h) (n : ℕ) (hn : t.val / 128 = n) :
    kerOut (vis t.val) (fun κ => ∑ e : Fin 128, K (ix3 b κ e) * X (ix3 b t (col h e))) (fun κ => W (ix3 b κ d)) (headScale Q KS h) (WS (ix1 0))
      (Tiles.keys ((n - 32) * 128) ((n + 1) * 128)) = attention X Q K KS W WS b t h d := by
  refine attention_eq h0 _ (fun κ hκ => ?_) ⟨t, ?_⟩
  · rw [Tiles.mem_keys]
    obtain ⟨h1, h2⟩ := hκ
    omega
  · exact ⟨le_refl _, by omega⟩

theorem idx : ∀ t : Fin cfg0.N, win0_0.index t = ![(grid0.coords t 0).val, (grid0.coords t 1).val, 0] ∧ win0_1.index t = ![0, 0] ∧ win0_2.index t = ![0, 0]
    ∧ win0_3.index t = ![0] ∧ win0_4.index t = ![(grid0.coords t 0).val, 0, 0] ∧ win0_5.index t = ![(grid0.coords t 0).val, 0, 0]
    ∧ win0_6.index t = ![(grid0.coords t 0).val, (grid0.coords t 1).val, 0] :=
  (by decide +kernel : ∀ t : Fin grid0.N, _)

variable (m : (ℓ : Loc nD τ sig) → Buf (Elt Ideal) ℓ)

theorem value_entry (c : Dev nD) (b : Fin 8) (d : Fin 128) (κ : Fin 8192) :
    (V m c main_v15 : FVec Ideal S8x128x8192 .fp8e4m3) (ix3 b d κ) = (m ((c : Thread nD τ).loc main_arg4) : FVec Ideal S8x8192x128 .fp8e4m3) (ix3 b κ d) := by
  unfold V
  simp only [List.flatten_cons, List.flatten_nil, List.append_nil, List.cons_append, List.nil_append, hostOps0, hostOps0_1, hostOps0_2]
  entry_read
  pointwise []
  all_goals rfl

theorem point (c : Dev nD) (t : Fin cfg0.N) (τ' d : Fin 128) (h : Fin 8)
    (h0 : ∀ h, 0 ≤ headScale (m ((c : Thread nD τ).loc main_arg1)) (m ((c : Thread nD τ).loc main_arg3)) h)
    (b : Fin 8) (r : Fin 8192) (hb : b.val = (grid0.coords t 0).val) (hr : r.val = (grid0.coords t 1).val * 128 + τ'.val) :
    outsAt0 m c t (ix3 0 τ' (col h d)) = attention (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) b r h d := by
  have hsg : ∀ j : Fin 1024, (iblk m c 1 t : IVec S1x1024 32) (ix2 0 j) = 0#32 := by
    intro j
    rw [← sign_entry m c (headOf j) (placeOf j) (h0 _), col_eq]
    blk_ext [iblk, idx t]
  have hq : (iblk m c 2 t : FVec Ideal S1x1024 .f32) (ix2 0 (col h τ'))
      = max (headScale (m ((c : Thread nD τ).loc main_arg1)) (m ((c : Thread nD τ).loc main_arg3)) h)
          (-(headScale (m ((c : Thread nD τ).loc main_arg1)) (m ((c : Thread nD τ).loc main_arg3)) h)) := by
    rw [← scale_entry m c h τ']
    blk_ext [iblk, idx t]
  have h3 : (iblk m c 3 t : FVec Ideal S1 .f32) (ix1 0) = (m ((c : Thread nD τ).loc main_arg5) : FVec Ideal S1 .f32) (ix1 0) := by
    blk_ext [iblk, V, idx t]
  have h4 : ∀ κ e, (iblk m c 4 t : FVec Ideal S1x8192x128 .fp8e4m3) (ix3 0 κ e) = (m ((c : Thread nD τ).loc main_arg2) : FVec Ideal S8x8192x128 .fp8e4m3) (ix3 b κ e) := by
    intro κ e
    blk_ext [iblk, V, idx t]
  have h5 : ∀ κ, (iblk m c 5 t : FVec Ideal S1x128x8192 .fp8e4m3) (ix3 0 d κ) = (m ((c : Thread nD τ).loc main_arg4) : FVec Ideal S8x8192x128 .fp8e4m3) (ix3 b κ d) := by
    intro κ
    rw [← value_entry m c b d κ]
    blk_ext [iblk, idx t]
  have h6 : ∀ e, (iblk m c 0 t : FVec Ideal S1x128x1024 .fp8e4m3) (ix3 0 τ' (col h e)) = (m ((c : Thread nD τ).loc main_arg0) : FVec Ideal S8x8192x1024 .fp8e4m3) (ix3 b r (col h e)) := by
    intro e
    blk_ext [iblk, V, idx t]
  unfold outsAt0
  refine (block_at c (grid0.coords t) _ _ _ _ _ _ _ _ _ _ _ _ _ _ _ _ _ _ _ _ _ _ _ _ _ _ hsg h τ' d _ hq).trans ?_
  simp only [h3, h4, h5, h6]
  refine Eq.trans ?_ (attention_kernel _ _ _ _ _ _ b r h d (h0 h) (grid0.coords t 1).val (by omega))
  rw [hr]

theorem final (c : Dev nD) (h0 : ∀ h, 0 ≤ headScale (m ((c : Thread nD τ).loc main_arg1)) (m ((c : Thread nD τ).loc main_arg3)) h) :
    (dats m 0 c).arrAt 6 cfg0.N = result (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]
  idx_vars y
  have z : y0 = 0 := Subsingleton.elim _ _
  subst z
  have e0 : ((((View.whole main_v16).slice (win0_6.rect t)).emb (ix3 0 y1 y2)) 0 : ℕ) = (grid0.coords t 0).val := by
    blk_simp [idx t]
    all_goals simp
  have e1 : ((((View.whole main_v16).slice (win0_6.rect t)).emb (ix3 0 y1 y2)) 1 : ℕ) = (grid0.coords t 1).val * 128 + y1.val := by
    blk_simp [idx t]
    all_goals simp
  have e2 : ((((View.whole main_v16).slice (win0_6.rect t)).emb (ix3 0 y1 y2)) 2 : ℕ) = y2.val := by
    blk_simp [idx t]
    all_goals simp
  generalize ((View.whole main_v16).slice (win0_6.rect t)).emb (ix3 0 y1 y2) = i at e0 e1 e2
  have hj : (i 2 : Fin 1024) = y2 := Fin.ext e2
  have hp := point m c t y1 (placeOf y2) (headOf y2) h0 (i 0) (i 1) e0 e1
  rw [col_eq] at hp
  refine hp.trans ?_
  unfold result
  rw [← hj]

end Cert.KernelIdeal.Block

end
-- ==== Proof.RefPayloads.lean ====
/-
  The reference's operations, entry by entry (hand-written, untrusted).
-/
module

public import proofs.«01_k».proof.Proof.Softmax
public import proofs.«01_k».proof.Proof.Tiles
public import proofs.«01_k».proof.Proof.Gen.ReferenceIdeal.Value
public import Idealize.ShloMosaic.Lib.Pipeline.ValueKit
public import Idealize.ShloMosaic.Lib.Pointwise

@[expose] public section

set_option maxRecDepth 16384

noncomputable section

namespace Cert.ReferenceIdeal.Spec

open Idealize.ShloMosaic Idealize.ShloMosaic.TcCoe Idealize.SL.Sem
open Cert.ReferenceIdeal.Gen Cert.Softmax

theorem ofBits_bot : Ideal.ofBits FTy.f32 0xFF800000#32 = ⊥ := by simp [Ideal.ofBits, Ideal.ieee]
theorem ofBits_256 : Ideal.ofBits FTy.f32 0x43800000#32 = ((256 : ℝ) : EReal) := by
  simp [Ideal.ofBits, Ideal.ieee, -EReal.coe_mul]; norm_num
theorem ofBits_inv_256 : Ideal.ofBits FTy.f32 0x3B800000#32 = ((256⁻¹ : ℝ) : EReal) := by
  simp [Ideal.ofBits, Ideal.ieee, -EReal.coe_mul]; norm_num
theorem ofBits_max : Ideal.ofBits FTy.f32 0x43E00000#32 = ((448 : ℝ) : EReal) := by
  simp [Ideal.ofBits, Ideal.ieee, -EReal.coe_mul]; norm_num
theorem ofBits_min : Ideal.ofBits FTy.f32 0xC3E00000#32 = ((-448 : ℝ) : EReal) := by
  simp [Ideal.ofBits, Ideal.ieee, -EReal.coe_mul]; norm_num

/-- Query `t` sees key `κ`: it is not later than the query, and fewer than 4096 places before it. -/
abbrev vis (t : ℕ) (κ : Fin 8192) : Prop := κ.val ≤ t ∧ t < κ.val + 4096

/-- Column of place `e` of head `h`. -/
abbrev col (h : Fin 8) (e : Fin 128) : Fin 1024 := ⟨h.val * 128 + e.val, by omega⟩

/-- The head a column belongs to. -/
abbrev headOf (j : Fin 1024) : Fin 8 := ⟨j.val / 128, by omega⟩
/-- The place of a column in its head. -/
abbrev placeOf (j : Fin 1024) : Fin 128 := ⟨j.val % 128, by omega⟩

/-- The reference's mask. -/
theorem mask (t κ : Fin 8192) (x y : EReal) :
    Scalar.select (IntOp.andi (IntOp.cmpi CmpIPredicate.sge (IntOp.subi (BitVec.ofNat 32 t.val) (BitVec.ofNat 32 κ.val)) 0#32)
        (IntOp.cmpi CmpIPredicate.slt (IntOp.subi (BitVec.ofNat 32 t.val) (BitVec.ofNat 32 κ.val)) 4096#32)) x y
      = if vis t.val κ then x else y := by
  have h : (IntOp.subi (BitVec.ofNat 32 t.val) (BitVec.ofNat 32 κ.val)).toInt = (t.val : ℤ) - κ.val := by
    show (BitVec.ofNat 32 t.val - BitVec.ofNat 32 κ.val).toInt = _
    have e : ∀ n : ℕ, n < 8192 → (BitVec.ofNat 32 n).toInt = (n : ℤ) := fun n hn => by
      rw [BitVec.toInt_eq_toNat_bmod, BitVec.toNat_ofNat, Nat.mod_eq_of_lt (by omega)]
      exact Int.bmod_eq_of_le (by omega) (by omega)
    rw [BitVec.toInt_sub, e t.val t.isLt, e κ.val κ.isLt]
    exact Int.bmod_eq_of_le (by omega) (by omega)
  generalize IntOp.subi (BitVec.ofNat 32 t.val) (BitVec.ofNat 32 κ.val) = w at h
  have h0 : (0#32 : BitVec 32).toInt = 0 := by decide
  have h1 : (4096#32 : BitVec 32).toInt = 4096 := by decide
  have hw : IntOp.andi (IntOp.cmpi CmpIPredicate.sge w 0#32) (IntOp.cmpi CmpIPredicate.slt w 4096#32)
      = if vis t.val κ then 1#1 else 0#1 := by
    show BitVec.ofBool (BitVec.sle 0#32 w) &&& BitVec.ofBool (BitVec.slt w 4096#32) = _
    rw [BitVec.sle_eq_decide, BitVec.slt_eq_decide, h0, h1, h]
    by_cases h2 : κ.val ≤ t.val <;> by_cases h3 : t.val < κ.val + 4096
    · rw [if_pos ⟨h2, h3⟩, decide_eq_true (by omega), decide_eq_true (by omega)]; decide
    · rw [if_neg (fun h => h3 h.2), decide_eq_true (by omega), decide_eq_false (by omega)]; decide
    · rw [if_neg (fun h => h2 h.1), decide_eq_false (by omega), decide_eq_true (by omega)]; decide
    · rw [if_neg (fun h => h3 h.2), decide_eq_false (by omega), decide_eq_false (by omega)]; decide
  rw [hw]
  by_cases hv : vis t.val κ
  · rw [if_pos hv, if_pos hv]; rfl
  · rw [if_neg hv, if_neg hv]; rfl

variable (x : FVec Ideal S8x8192x1024 .fp8e4m3) (k v : FVec Ideal S8x8192x128 .fp8e4m3) (q : FVec Ideal S1x8x1x1 .f32) (w : EReal)

/-- The score of a key before it is scaled. -/
abbrev score (b h : Fin 8) (t κ : Fin 8192) : EReal := ∑ e : Fin 128, x (ix3 b t (col h e)) * k (ix3 b κ e)

theorem pay2_at (b h : Fin 8) (t κ : Fin 8192) :
    k0_pay2 (F := Ideal) x k q (ix4 b h t κ) = refWeight (vis t.val) (score x k b h t) (q (ix4 0 h 0 0)) κ := by
  pointwise [k0_pay2]
  simp only [mask, ofBits_bot, Tiles.fold_max_eq_sup]
  rfl

theorem pay3_at (b h : Fin 8) (t : Fin 8192) :
    k0_pay3 (F := Ideal) x k q (ix4 b h t 0) = ∑ κ, refWeight (vis t.val) (score x k b h t) (q (ix4 0 h 0 0)) κ := by
  unfold k0_pay3
  have e := pay2_at x k q
  generalize k0_pay2 (F := Ideal) x k q = p at e ⊢
  pointwise []
  exact Finset.sum_congr rfl fun κ _ => e b h t κ

theorem pay4_at (b h : Fin 8) (t κ : Fin 8192) :
    k0_pay4 (F := Ideal) x k q (ix3 b ⟨h.val * 8192 + t.val, by omega⟩ κ)
      = clip (refWeight (vis t.val) (score x k b h t) (q (ix4 0 h 0 0)) κ * ((256 : ℝ) : EReal)) := by
  unfold k0_pay4
  have e := pay2_at x k q
  generalize k0_pay2 (F := Ideal) x k q = p at e ⊢
  pointwise []
  rw [ofBits_max, ofBits_min, ofBits_256, e]
  rfl

theorem pay1_at (l : FVec Ideal S8x8x8192x1 .f32) (p : FVec Ideal S8x65536x8192 .fp8e4m3) (b : Fin 8) (t : Fin 8192) (j : Fin 1024) :
    k0_pay1 (F := Ideal) l p v (constant S8x65536x128 .f32 0x00000000#32) w (ix3 b t j)
      = Ideal.div ((∑ κ, p (ix3 b ⟨(headOf j).val * 8192 + t.val, by omega⟩ κ) * v (ix3 b κ (placeOf j))) * (w * ((256⁻¹ : ℝ) : EReal)))
          (l (ix4 b (headOf j) t 0)) := by
  pointwise [k0_pay1]
  rw [ofBits_inv_256]

/-- The reference's whole computation, at an entry of its result. -/
theorem body_at (b : Fin 8) (t : Fin 8192) (j : Fin 1024) :
    k0_pay1 (F := Ideal) (k0_pay3 x k q) (k0_pay4 x k q) v (constant S8x65536x128 .f32 0x00000000#32) w (ix3 b t j)
      = refOut (vis t.val) (score x k b (headOf j) t) (fun κ => v (ix3 b κ (placeOf j))) (q (ix4 0 (headOf j) 0 0)) w := by
  rw [pay1_at, pay3_at]
  unfold refOut
  refine congrArg₂ Ideal.div (congrArg (· * _) (Finset.sum_congr rfl fun κ _ => ?_)) rfl
  exact congrArg (· * _) (pay4_at x k q b (headOf j) t κ)

end Cert.ReferenceIdeal.Spec

end
-- ==== Proof.RefArray.lean ====
/-
  The reference's result array, entry by entry (hand-written, untrusted).
-/
module

public import proofs.«01_k».proof.Proof.RefPayloads

@[expose] public section

set_option maxRecDepth 16384

noncomputable section

namespace Cert.ReferenceIdeal.Spec

open Idealize.ShloMosaic Idealize.ShloMosaic.TcCoe Idealize.SL.Sem
open Cert.ReferenceIdeal.Gen Cert.Softmax

theorem idx : win0_0.index t0_0 = ![0, 0, 0] ∧ win0_1.index t0_0 = ![0, 0, 0, 0] ∧ win0_2.index t0_0 = ![0]
    ∧ win0_3.index t0_0 = ![0, 0, 0] ∧ win0_4.index t0_0 = ![0, 0, 0] ∧ win0_5.index t0_0 = ![0, 0, 0] := by
  decide +kernel

variable (m : (ℓ : Loc nD τ sig) → Buf (Elt Ideal) ℓ)

/-- The score scale of head `h`. -/
def headScale (Q : FVec Ideal S8 .f32) (K : FVec Ideal S1 .f32) (h : Fin 8) : EReal :=
  Q (ix1 h) * K (ix1 0) * Ideal.ofBits .f32 0x3DB504F3#32

theorem scale_entry (c : Dev nD) (h : Fin 8) :
    (V m c main_v4 : FVec Ideal S1x8x1x1 .f32) (ix4 0 h 0 0)
      = headScale (m ((c : Thread nD τ).loc main_arg1)) (m ((c : Thread nD τ).loc main_arg3)) h := by
  entry_read
  pointwise [headScale]

theorem idx_one (y : S1.Idx) : y = ix1 0 := by
  idx_vars y
  exact congrArg ix1 (Subsingleton.elim _ _)

theorem block_eq (c : Dev nD) (arg0 : Memref sig .tc .vmem S8x8192x1024 .fp8e4m3) (harg0 : arg0.IsWhole) (arg1 : Memref sig .tc .vmem S1x8x1x1 .f32) (harg1 : arg1.IsWhole)
    (arg2 : Memref sig .tc .smem S1 .f32) (harg2 : arg2.IsWhole) (arg3 : Memref sig .tc .vmem S8x8192x128 .fp8e4m3) (harg3 : arg3.IsWhole)
    (arg4 : Memref sig .tc .vmem S8x8192x128 .fp8e4m3) (harg4 : arg4.IsWhole) (arg5 : Memref sig .tc .vmem S8x8192x1024 .bf16) (harg5 : arg5.IsWhole)
    (x0 : FVec Ideal S8x8192x1024 .fp8e4m3) (x1 : FVec Ideal S1x8x1x1 .f32) (x2 : FVec Ideal S1 .f32) (x3 x4 : FVec Ideal S8x8192x128 .fp8e4m3) :
    out0_A_5 (F := Ideal) c arg0 harg0 arg1 harg1 arg2 harg2 arg3 harg3 arg4 harg4 arg5 harg5 x0 x1 x2 x3 x4
      = k0_pay1 (F := Ideal) (k0_pay3 x0 x3 x1) (k0_pay4 x0 x3 x1) x4 (constant S8x65536x128 .f32 0x00000000#32) (x2 (ix1 0)) := by
  have e : ∀ h : 0 < S1.numel, Shape.Idx.first h = (ix1 0 : S1.Idx) := fun h => idx_one _
  frame_out
  simp only [Memref.IsWhole.read_unread, e]
  exact congrArg (k0_pay1 (F := Ideal) _ _ _ _) (congrArg x2 (idx_one _))

theorem array_eq (c : Dev nD) : (dats m 0 c).arrAt 5 cfg0.N = k0_pay1 (F := Ideal)
      (k0_pay3 (m ((c : Thread nD τ).loc main_arg0)) (m ((c : Thread nD τ).loc main_arg2)) (V m c main_v4))
      (k0_pay4 (m ((c : Thread nD τ).loc main_arg0)) (m ((c : Thread nD τ).loc main_arg2)) (V m c main_v4))
      (m ((c : Thread nD τ).loc main_arg4)) (constant S8x65536x128 .f32 0x00000000#32)
      ((m ((c : Thread nD τ).loc main_arg5) : FVec Ideal S1 .f32) (ix1 0)) := by
  have h0 : (iblk m c 0 t0_0 : FVec Ideal S8x8192x1024 .fp8e4m3) = m ((c : Thread nD τ).loc main_arg0) := by blk_ext! [iblk, V, idx]
  have h1 : (iblk m c 1 t0_0 : FVec Ideal S1x8x1x1 .f32) = V m c main_v4 := by blk_ext! [iblk, idx]
  have h2 : (iblk m c 2 t0_0 : FVec Ideal S1 .f32) = m ((c : Thread nD τ).loc main_arg5) := by blk_ext! [iblk, V, idx]
  have h3 : (iblk m c 3 t0_0 : FVec Ideal S8x8192x128 .fp8e4m3) = m ((c : Thread nD τ).loc main_arg2) := by blk_ext! [iblk, V, idx]
  have h4 : (iblk m c 4 t0_0 : FVec Ideal S8x8192x128 .fp8e4m3) = m ((c : Thread nD τ).loc main_arg4) := by blk_ext! [iblk, V, idx]
  refine (dats m 0 c).arrAt_eq_of_after_last 5 t0_0 (by decide +kernel) _ fun j => ?_
  blk_simp
  rw [after0_5]
  unfold outsAt0
  rw [h0, h1, h2, h3, h4, block_eq]

/-- The reference's result at an entry: windowed attention. -/
theorem final (c : Dev nD) (b : Fin 8) (t : Fin 8192) (j : Fin 1024) :
    ((dats m 0 c).arrAt 5 cfg0.N : FVec Ideal S8x8192x1024 .bf16) (ix3 b t j)
      = refOut (vis t.val) (score (m ((c : Thread nD τ).loc main_arg0)) (m ((c : Thread nD τ).loc main_arg2)) b (headOf j) t)
          (fun κ => (m ((c : Thread nD τ).loc main_arg4) : FVec Ideal S8x8192x128 .fp8e4m3) (ix3 b κ (placeOf j)))
          (headScale (m ((c : Thread nD τ).loc main_arg1)) (m ((c : Thread nD τ).loc main_arg3)) (headOf j))
          ((m ((c : Thread nD τ).loc main_arg5) : FVec Ideal S1 .f32) (ix1 0)) := by
  rw [array_eq]
  refine (body_at _ _ _ _ _ b t j).trans ?_
  rw [scale_entry]

end Cert.ReferenceIdeal.Spec

end
-- ==== Proof.Equal.lean ====
/-
  The two result arrays are equal when the argument arrays are and no head's score scale is negative
  (hand-written, untrusted).
-/
module

public import proofs.«01_k».proof.Proof.KernelArray
public import proofs.«01_k».proof.Proof.RefArray
public import proofs.«01_k».proof.Defs

@[expose] public section

set_option maxRecDepth 16384

noncomputable section

namespace Cert.Proof

open Idealize.ShloMosaic Idealize.ShloMosaic.TcCoe Idealize.SL.Sem
open Cert.Softmax

/-- The reference multiplies a query's entries by a key's, the kernel a key's by a query's. -/
theorem attention_eq_ref (X : FVec Ideal Cert.KernelIdeal.S8x8192x1024 .fp8e4m3) (Q : FVec Ideal Cert.KernelIdeal.S8 .f32)
    (K : FVec Ideal Cert.KernelIdeal.S8x8192x128 .fp8e4m3) (KS : FVec Ideal Cert.KernelIdeal.S1 .f32)
    (W : FVec Ideal Cert.KernelIdeal.S8x8192x128 .fp8e4m3) (WS : FVec Ideal Cert.KernelIdeal.S1 .f32) (b : Fin 8) (t : Fin 8192) (j : Fin 1024) :
    refOut (Cert.ReferenceIdeal.Spec.vis t.val) (Cert.ReferenceIdeal.Spec.score X K b (Cert.ReferenceIdeal.Spec.headOf j) t)
        (fun κ => W (ix3 b κ (Cert.ReferenceIdeal.Spec.placeOf j))) (Cert.ReferenceIdeal.Spec.headScale Q KS (Cert.ReferenceIdeal.Spec.headOf j)) (WS (ix1 0))
      = Cert.KernelIdeal.Block.result X Q K KS W WS (ix3 b t j) := by
  have hs : Cert.ReferenceIdeal.Spec.score X K b (Cert.ReferenceIdeal.Spec.headOf j) t
      = fun κ => ∑ e : Fin 128, K (ix3 b κ e) * X (ix3 b t (Cert.KernelIdeal.Block.col (Cert.KernelIdeal.Block.headOf j) e)) :=
    funext fun κ => Finset.sum_congr rfl fun e _ => mul_comm _ _
  rw [hs]
  rfl

theorem scales (m : (ℓ : Loc Cert.KernelIdeal.nD Cert.KernelIdeal.τ Cert.KernelIdeal.sig) → Buf (Elt Ideal) ℓ)
    (hp : Cert.Pre_KernelIdeal_scales_nonnegative m) (c : Dev Cert.KernelIdeal.nD) (h : Fin 8) :
    0 ≤ Cert.KernelIdeal.Block.headScale (m ((c.tc : Thread Cert.KernelIdeal.nD Cert.KernelIdeal.τ).loc Cert.KernelIdeal.main_arg1))
      (m ((c.tc : Thread Cert.KernelIdeal.nD Cert.KernelIdeal.τ).loc Cert.KernelIdeal.main_arg3)) h :=
  Cert.KernelIdeal.Block.headScale_nonneg _ _ _ _ _ _ (hp c) h

/-- The reference ends holding what the kernel ends holding. -/
theorem algebraic : Cert.algebraic_KernelIdeal_ReferenceIdeal_pre_scales_nonnegative := by
  intro m g m' g' hp ha
  refine ⟨_, Cert.KernelIdeal.Value.run_blocks m g, ?_⟩
  refine (θ_run _ _ _).mono (fun _ h c => ⟨(h c).1.trans ?_, (h c).2⟩) (Cert.ReferenceIdeal.Value.run_blocks m' g')
  refine Eq.trans ?_ (Cert.KernelIdeal.Block.final m c (scales m hp c)).symm
  obtain ⟨a0, a1, a2, a3, a4, a5⟩ := ha c
  funext i
  idx_vars i
  refine (Cert.ReferenceIdeal.Spec.final m' c _ _ _).trans ?_
  rw [a0, a1, a2, a3, a4, a5]
  exact attention_eq_ref _ _ _ _ _ _ _ _ _

end Cert.Proof

end
-- ==== Proof.lean ====
module

public import proofs.«01_k».proof.Defs
public import proofs.«01_k».proof.Proof.Gen.Kernel.Frame
public import proofs.«01_k».proof.Proof.Equal

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_scales_nonnegative.facts,
    fun m ρ _ => Cert.Kernel.Gen.frame m ρ, fun m ρ _ => Cert.KernelIdeal.Gen.frame m ρ,
    fun m ρ _ => Cert.KernelIdeal.Gen.frame m ρ, fun m ρ _ => Cert.ReferenceIdeal.Gen.frame m ρ,
    fun m ρ _ => Cert.ReferenceIdeal.Gen.frame m ρ,
    IdealRules.named_const.statement Cert.KernelIdeal.κ "log2e" .f32 0x3FB8AA3B#32 (((Real.log 2)⁻¹ : ℝ) : EReal) rfl,
    algebraic⟩

end Cert.Proof

end
